-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v86) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x256x64x64 : Shape := ⟨4, ![8, 256, 64, 64]⟩
abbrev S8x100x4 : Shape := ⟨3, ![8, 100, 4]⟩
abbrev S8x100 : Shape := ⟨2, ![8, 100]⟩
abbrev S40 : Shape := ⟨1, ![40]⟩
abbrev S_ : Shape := ⟨0, ![]⟩
abbrev S64 : Shape := ⟨1, ![64]⟩
abbrev S1x40 : Shape := ⟨2, ![1, 40]⟩
abbrev S64x1 : Shape := ⟨2, ![64, 1]⟩
abbrev S64x40 : Shape := ⟨2, ![64, 40]⟩
abbrev S40x64 : Shape := ⟨2, ![40, 64]⟩
abbrev S40x64x64 : Shape := ⟨3, ![40, 64, 64]⟩
abbrev S40x4096 : Shape := ⟨2, ![40, 4096]⟩
abbrev S1x40x1x64 : Shape := ⟨4, ![1, 40, 1, 64]⟩
abbrev S1x40x64x64 : Shape := ⟨4, ![1, 40, 64, 64]⟩
abbrev S8x256x4096 : Shape := ⟨3, ![8, 256, 4096]⟩
abbrev S8x1x100 : Shape := ⟨3, ![8, 1, 100]⟩
abbrev S8x599x256 : Shape := ⟨3, ![8, 599, 256]⟩
abbrev S1x128x4096 : Shape := ⟨3, ![1, 128, 4096]⟩
abbrev S1x100x4 : Shape := ⟨3, ![1, 100, 4]⟩
abbrev S1x1x100 : Shape := ⟨3, ![1, 1, 100]⟩
abbrev S1x599x128 : Shape := ⟨3, ![1, 599, 128]⟩
abbrev S100x4096 : Shape := ⟨2, ![100, 4096]⟩
abbrev S599x100 : Shape := ⟨2, ![599, 100]⟩
abbrev S599x1 : Shape := ⟨2, ![599, 1]⟩
abbrev S100x4 : Shape := ⟨2, ![100, 4]⟩
abbrev S1x100 : Shape := ⟨2, ![1, 100]⟩
abbrev S100x1 : Shape := ⟨2, ![100, 1]⟩
abbrev S100x40 : Shape := ⟨2, ![100, 40]⟩
abbrev S100 : Shape := ⟨1, ![100]⟩
abbrev S128x4096 : Shape := ⟨2, ![128, 4096]⟩
abbrev S100x128 : Shape := ⟨2, ![100, 128]⟩
abbrev S599x128 : Shape := ⟨2, ![599, 128]⟩

abbrev nBuf : Space → Nat
  | .hbm => 76
  | .vmem => 13
  | .smem => 0
  | _ => 0

abbrev bufTy : (tb : Table) → Fin (tcTables nBuf tb) → BufTy
  | .hbm, ⟨0, _⟩ => ⟨S8x256x64x64, .f32⟩
  | .hbm, ⟨1, _⟩ => ⟨S8x100x4, .f32⟩
  | .hbm, ⟨2, _⟩ => ⟨S8x100, .i32⟩
  | .hbm, ⟨3, _⟩ => ⟨S40, .f32⟩
  | .hbm, ⟨4, _⟩ => ⟨S_, .f32⟩
  | .hbm, ⟨5, _⟩ => ⟨S40, .f32⟩
  | .hbm, ⟨6, _⟩ => ⟨S40, .f32⟩
  | .hbm, ⟨7, _⟩ => ⟨S_, .f32⟩
  | .hbm, ⟨8, _⟩ => ⟨S40, .f32⟩
  | .hbm, ⟨9, _⟩ => ⟨S40, .f32⟩
  | .hbm, ⟨10, _⟩ => ⟨S_, .f32⟩
  | .hbm, ⟨11, _⟩ => ⟨S40, .f32⟩
  | .hbm, ⟨12, _⟩ => ⟨S40, .f32⟩
  | .hbm, ⟨13, _⟩ => ⟨S_, .f32⟩
  | .hbm, ⟨14, _⟩ => ⟨S40, .f32⟩
  | .hbm, ⟨15, _⟩ => ⟨S40, .f32⟩
  | .hbm, ⟨16, _⟩ => ⟨S64, .f32⟩
  | .hbm, ⟨17, _⟩ => ⟨S1x40, .f32⟩
  | .hbm, ⟨18, _⟩ => ⟨S64x1, .f32⟩
  | .hbm, ⟨19, _⟩ => ⟨S64x40, .f32⟩
  | .hbm, ⟨20, _⟩ => ⟨S64x40, .f32⟩
  | .hbm, ⟨21, _⟩ => ⟨S64x40, .f32⟩
  | .hbm, ⟨22, _⟩ => ⟨S64x40, .f32⟩
  | .hbm, ⟨23, _⟩ => ⟨S_, .f32⟩
  | .hbm, ⟨24, _⟩ => ⟨S64x40, .f32⟩
  | .hbm, ⟨25, _⟩ => ⟨S64x40, .f32⟩
  | .hbm, ⟨26, _⟩ => ⟨S64x40, .f32⟩
  | .hbm, ⟨27, _⟩ => ⟨S_, .f32⟩
  | .hbm, ⟨28, _⟩ => ⟨S64x40, .f32⟩
  | .hbm, ⟨29, _⟩ => ⟨S64x40, .f32⟩
  | .hbm, ⟨30, _⟩ => ⟨S_, .f32⟩
  | .hbm, ⟨31, _⟩ => ⟨S64x40, .f32⟩
  | .hbm, ⟨32, _⟩ => ⟨S64x40, .f32⟩
  | .hbm, ⟨33, _⟩ => ⟨S_, .f32⟩
  | .hbm, ⟨34, _⟩ => ⟨S40, .f32⟩
  | .hbm, ⟨35, _⟩ => ⟨S1x40, .f32⟩
  | .hbm, ⟨36, _⟩ => ⟨S1x40, .f32⟩
  | .hbm, ⟨37, _⟩ => ⟨S_, .f32⟩
  | .hbm, ⟨38, _⟩ => ⟨S1x40, .f32⟩
  | .hbm, ⟨39, _⟩ => ⟨S1x40, .i1⟩
  | .hbm, ⟨40, _⟩ => ⟨S_, .f32⟩
  | .hbm, ⟨41, _⟩ => ⟨S1x40, .f32⟩
  | .hbm, ⟨42, _⟩ => ⟨S1x40, .i1⟩
  | .hbm, ⟨43, _⟩ => ⟨S_, .i32⟩
  | .hbm, ⟨44, _⟩ => ⟨S_, .f32⟩
  | .hbm, ⟨45, _⟩ => ⟨S1x40, .f32⟩
  | .hbm, ⟨46, _⟩ => ⟨S1x40, .f32⟩
  | .hbm, ⟨47, _⟩ => ⟨S64x40, .f32⟩
  | .hbm, ⟨48, _⟩ => ⟨S64x40, .f32⟩
  | .hbm, ⟨49, _⟩ => ⟨S_, .i32⟩
  | .hbm, ⟨50, _⟩ => ⟨S_, .f32⟩
  | .hbm, ⟨51, _⟩ => ⟨S64x40, .i1⟩
  | .hbm, ⟨52, _⟩ => ⟨S64x40, .f32⟩
  | .hbm, ⟨53, _⟩ => ⟨S64x40, .f32⟩
  | .hbm, ⟨54, _⟩ => ⟨S_, .f32⟩
  | .hbm, ⟨55, _⟩ => ⟨S40, .f32⟩
  | .hbm, ⟨56, _⟩ => ⟨S40, .i1⟩
  | .hbm, ⟨57, _⟩ => ⟨S_, .f32⟩
  | .hbm, ⟨58, _⟩ => ⟨S40, .f32⟩
  | .hbm, ⟨59, _⟩ => ⟨S40, .i1⟩
  | .hbm, ⟨60, _⟩ => ⟨S40, .i1⟩
  | .hbm, ⟨61, _⟩ => ⟨S1x40, .i1⟩
  | .hbm, ⟨62, _⟩ => ⟨S_, .i32⟩
  | .hbm, ⟨63, _⟩ => ⟨S_, .f32⟩
  | .hbm, ⟨64, _⟩ => ⟨S64x40, .i1⟩
  | .hbm, ⟨65, _⟩ => ⟨S64x40, .f32⟩
  | .hbm, ⟨66, _⟩ => ⟨S64x40, .f32⟩
  | .hbm, ⟨67, _⟩ => ⟨S40x64, .f32⟩
  | .hbm, ⟨68, _⟩ => ⟨S40x64x64, .f32⟩
  | .hbm, ⟨69, _⟩ => ⟨S40x4096, .f32⟩
  | .hbm, ⟨70, _⟩ => ⟨S1x40x1x64, .f32⟩
  | .hbm, ⟨71, _⟩ => ⟨S1x40x64x64, .f32⟩
  | .hbm, ⟨72, _⟩ => ⟨S40x4096, .f32⟩
  | .hbm, ⟨73, _⟩ => ⟨S8x256x4096, .f32⟩
  | .hbm, ⟨74, _⟩ => ⟨S8x1x100, .i32⟩
  | .hbm, ⟨75, _⟩ => ⟨S8x599x256, .f32⟩
  | .local _ .vmem, ⟨0, _⟩ => ⟨S1x128x4096, .f32⟩
  | .local _ .vmem, ⟨1, _⟩ => ⟨S1x128x4096, .f32⟩
  | .local _ .vmem, ⟨2, _⟩ => ⟨S1x100x4, .f32⟩
  | .local _ .vmem, ⟨3, _⟩ => ⟨S1x100x4, .f32⟩
  | .local _ .vmem, ⟨4, _⟩ => ⟨S1x1x100, .i32⟩
  | .local _ .vmem, ⟨5, _⟩ => ⟨S1x1x100, .i32⟩
  | .local _ .vmem, ⟨6, _⟩ => ⟨S40x4096, .f32⟩
  | .local _ .vmem, ⟨7, _⟩ => ⟨S40x4096, .f32⟩
  | .local _ .vmem, ⟨8, _⟩ => ⟨S1x599x128, .f32⟩
  | .local _ .vmem, ⟨9, _⟩ => ⟨S1x599x128, .f32⟩
  | .local _ .vmem, ⟨10, _⟩ => ⟨S100x4096, .f32⟩
  | .local _ .vmem, ⟨11, _⟩ => ⟨S599x100, .f32⟩
  | .local _ .vmem, ⟨12, _⟩ => ⟨S599x1, .f32⟩
  | _, _ => ⟨S8x256x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_7 : Ref sig .tc := ⟨.hbm, 37, rfl⟩
abbrev main_v26 : Ref sig .tc := ⟨.hbm, 38, rfl⟩
abbrev main_v27 : Ref sig .tc := ⟨.hbm, 39, rfl⟩
abbrev main_cst_8 : Ref sig .tc := ⟨.hbm, 40, rfl⟩
abbrev main_v28 : Ref sig .tc := ⟨.hbm, 41, rfl⟩
abbrev main_v29 : Ref sig .tc := ⟨.hbm, 42, rfl⟩
abbrev main_c : Ref sig .tc := ⟨.hbm, 43, rfl⟩
abbrev main_call0_v0 : Ref sig .tc := ⟨.hbm, 44, rfl⟩
abbrev main_call0_v1 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_c_9 : Ref sig .tc := ⟨.hbm, 49, rfl⟩
abbrev main_call1_v0 : Ref sig .tc := ⟨.hbm, 50, rfl⟩
abbrev main_call1_v1 : Ref sig .tc := ⟨.hbm, 51, rfl⟩
abbrev main_call1_v2 : Ref sig .tc := ⟨.hbm, 52, rfl⟩
abbrev main_v33 : Ref sig .tc := ⟨.hbm, 53, rfl⟩
abbrev main_cst_10 : Ref sig .tc := ⟨.hbm, 54, rfl⟩
abbrev main_v34 : Ref sig .tc := ⟨.hbm, 55, rfl⟩
abbrev main_v35 : Ref sig .tc := ⟨.hbm, 56, rfl⟩
abbrev main_cst_11 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_c_12 : Ref sig .tc := ⟨.hbm, 62, rfl⟩
abbrev main_call2_v0 : Ref sig .tc := ⟨.hbm, 63, rfl⟩
abbrev main_call2_v1 : Ref sig .tc := ⟨.hbm, 64, rfl⟩
abbrev main_call2_v2 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![8, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x100x4 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x100 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S40x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S40x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x599x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceIdeal.lean ====
abbrev S8x256x64x64 : Shape := ⟨4, ![8, 256, 64, 64]⟩
abbrev S8x100x4 : Shape := ⟨3, ![8, 100, 4]⟩
abbrev S8x100 : Shape := ⟨2, ![8, 100]⟩
abbrev S4 : Shape := ⟨1, ![4]⟩
abbrev S40 : Shape := ⟨1, ![40]⟩
abbrev S_ : Shape := ⟨0, ![]⟩
abbrev S64 : Shape := ⟨1, ![64]⟩
abbrev S1x40 : Shape := ⟨2, ![1, 40]⟩
abbrev S64x1 : Shape := ⟨2, ![64, 1]⟩
abbrev S64x40 : Shape := ⟨2, ![64, 40]⟩
abbrev S40x8x256x64 : Shape := ⟨4, ![40, 8, 256, 64]⟩
abbrev S40x8x256x40 : Shape := ⟨4, ![40, 8, 256, 40]⟩
abbrev S8x256x40x40 : Shape := ⟨4, ![8, 256, 40, 40]⟩
abbrev S1x1x4 : Shape := ⟨3, ![1, 1, 4]⟩
abbrev S8x100x1 : Shape := ⟨3, ![8, 100, 1]⟩
abbrev S1x1x40 : Shape := ⟨3, ![1, 1, 40]⟩
abbrev S8x100x40 : Shape := ⟨3, ![8, 100, 40]⟩
abbrev S8x100x40x1 : Shape := ⟨4, ![8, 100, 40, 1]⟩
abbrev S8x100x1x40 : Shape := ⟨4, ![8, 100, 1, 40]⟩
abbrev S8x100x40x40 : Shape := ⟨4, ![8, 100, 40, 40]⟩
abbrev S8x100x1x1 : Shape := ⟨4, ![8, 100, 1, 1]⟩
abbrev S8x100x256 : Shape := ⟨3, ![8, 100, 256]⟩
abbrev S8 : Shape := ⟨1, ![8]⟩
abbrev S8x1 : Shape := ⟨2, ![8, 1]⟩
abbrev S8x599x256 : Shape := ⟨3, ![8, 599, 256]⟩
abbrev S8x100x2 : Shape := ⟨3, ![8, 100, 2]⟩
abbrev S8x599 : Shape := ⟨2, ![8, 599]⟩
abbrev S8x599x1 : Shape := ⟨3, ![8, 599, 1]⟩

abbrev nBuf : Space → Nat
  | .hbm => 230
  | .vmem => 0
  | .smem => 0
  | _ => 0

abbrev hbmTy0_0 (i : Nat) : BufTy := match i % 128 with
  | 0 => ⟨S8x256x64x64, .f32⟩
  | 1 => ⟨S8x100x4, .f32⟩
  | 2 => ⟨S8x100, .i32⟩
  | 3 => ⟨S4, .f32⟩
  | 4 => ⟨S40, .f32⟩
  | 5 => ⟨S_, .f32⟩
  | 6 => ⟨S40, .f32⟩
  | 7 => ⟨S40, .f32⟩
  | 8 => ⟨S_, .f32⟩
  | 9 => ⟨S40, .f32⟩
  | 10 => ⟨S40, .f32⟩
  | 11 => ⟨S_, .f32⟩
  | 12 => ⟨S40, .f32⟩
  | 13 => ⟨S40, .f32⟩
  | 14 => ⟨S_, .f32⟩
  | 15 => ⟨S40, .f32⟩
  | 16 => ⟨S40, .f32⟩
  | 17 => ⟨S64, .f32⟩
  | 18 => ⟨S1x40, .f32⟩
  | 19 => ⟨S64x1, .f32⟩
  | 20 => ⟨S64x40, .f32⟩
  | 21 => ⟨S64x40, .f32⟩
  | 22 => ⟨S64x40, .f32⟩
  | 23 => ⟨S64x40, .f32⟩
  | 24 => ⟨S_, .f32⟩
  | 25 => ⟨S64x40, .f32⟩
  | 26 => ⟨S64x40, .f32⟩
  | 27 => ⟨S64x40, .f32⟩
  | 28 => ⟨S_, .f32⟩
  | 29 => ⟨S64x40, .f32⟩
  | 30 => ⟨S64x40, .f32⟩
  | 31 => ⟨S_, .f32⟩
  | 32 => ⟨S64x40, .f32⟩
  | 33 => ⟨S64x40, .f32⟩
  | 34 => ⟨S_, .f32⟩
  | 35 => ⟨S40, .f32⟩
  | 36 => ⟨S1x40, .f32⟩
  | 37 => ⟨S1x40, .f32⟩
  | 38 => ⟨S_, .f32⟩
  | 39 => ⟨S1x40, .f32⟩
  | 40 => ⟨S1x40, .i1⟩
  | 41 => ⟨S_, .f32⟩
  | 42 => ⟨S1x40, .f32⟩
  | 43 => ⟨S1x40, .i1⟩
  | 44 => ⟨S_, .i32⟩
  | 45 => ⟨S_, .f32⟩
  | 46 => ⟨S1x40, .f32⟩
  | 47 => ⟨S1x40, .f32⟩
  | 48 => ⟨S64x40, .f32⟩
  | 49 => ⟨S64x40, .f32⟩
  | 50 => ⟨S_, .i32⟩
  | 51 => ⟨S_, .f32⟩
  | 52 => ⟨S64x40, .i1⟩
  | 53 => ⟨S64x40, .f32⟩
  | 54 => ⟨S64x40, .f32⟩
  | 55 => ⟨S_, .f32⟩
  | 56 => ⟨S40, .f32⟩
  | 57 => ⟨S40, .i1⟩
  | 58 => ⟨S_, .f32⟩
  | 59 => ⟨S40, .f32⟩
  | 60 => ⟨S40, .i1⟩
  | 61 => ⟨S40, .i1⟩
  | 62 => ⟨S1x40, .i1⟩
  | 63 => ⟨S_, .i32⟩
  | 64 => ⟨S_, .f32⟩
  | 65 => ⟨S64x40, .i1⟩
  | 66 => ⟨S64x40, .f32⟩
  | 67 => ⟨S64x40, .f32⟩
  | 68 => ⟨S40, .f32⟩
  | 69 => ⟨S_, .f32⟩
  | 70 => ⟨S40, .f32⟩
  | 71 => ⟨S40, .f32⟩
  | 72 => ⟨S_, .f32⟩
  | 73 => ⟨S40, .f32⟩
  | 74 => ⟨S40, .f32⟩
  | 75 => ⟨S_, .f32⟩
  | 76 => ⟨S40, .f32⟩
  | 77 => ⟨S40, .f32⟩
  | 78 => ⟨S_, .f32⟩
  | 79 => ⟨S40, .f32⟩
  | 80 => ⟨S40, .f32⟩
  | 81 => ⟨S64, .f32⟩
  | 82 => ⟨S1x40, .f32⟩
  | 83 => ⟨S64x1, .f32⟩
  | 84 => ⟨S64x40, .f32⟩
  | 85 => ⟨S64x40, .f32⟩
  | 86 => ⟨S64x40, .f32⟩
  | 87 => ⟨S64x40, .f32⟩
  | 88 => ⟨S_, .f32⟩
  | 89 => ⟨S64x40, .f32⟩
  | 90 => ⟨S64x40, .f32⟩
  | 91 => ⟨S64x40, .f32⟩
  | 92 => ⟨S_, .f32⟩
  | 93 => ⟨S64x40, .f32⟩
  | 94 => ⟨S64x40, .f32⟩
  | 95 => ⟨S_, .f32⟩
  | 96 => ⟨S64x40, .f32⟩
  | 97 => ⟨S64x40, .f32⟩
  | 98 => ⟨S_, .f32⟩
  | 99 => ⟨S40, .f32⟩
  | 100 => ⟨S1x40, .f32⟩
  | 101 => ⟨S1x40, .f32⟩
  | 102 => ⟨S_, .f32⟩
  | 103 => ⟨S1x40, .f32⟩
  | 104 => ⟨S1x40, .i1⟩
  | 105 => ⟨S_, .f32⟩
  | 106 => ⟨S1x40, .f32⟩
  | 107 => ⟨S1x40, .i1⟩
  | 108 => ⟨S_, .i32⟩
  | 109 => ⟨S_, .f32⟩
  | 110 => ⟨S1x40, .f32⟩
  | 111 => ⟨S1x40, .f32⟩
  | 112 => ⟨S64x40, .f32⟩
  | 113 => ⟨S64x40, .f32⟩
  | 114 => ⟨S_, .i32⟩
  | 115 => ⟨S_, .f32⟩
  | 116 => ⟨S64x40, .i1⟩
  | 117 => ⟨S64x40, .f32⟩
  | 118 => ⟨S64x40, .f32⟩
  | 119 => ⟨S_, .f32⟩
  | 120 => ⟨S40, .f32⟩
  | 121 => ⟨S40, .i1⟩
  | 122 => ⟨S_, .f32⟩
  | 123 => ⟨S40, .f32⟩
  | 124 => ⟨S40, .i1⟩
  | 125 => ⟨S40, .i1⟩
  | 126 => ⟨S1x40, .i1⟩
  | 127 => ⟨S_, .i32⟩
  | _ => ⟨S8x256x64x64, .f32⟩

abbrev hbmTy0_1 (i : Nat) : BufTy := match i % 128 with
  | 0 => ⟨S_, .f32⟩
  | 1 => ⟨S64x40, .i1⟩
  | 2 => ⟨S64x40, .f32⟩
  | 3 => ⟨S64x40, .f32⟩
  | 4 => ⟨S40x8x256x64, .f32⟩
  | 5 => ⟨S40x8x256x40, .f32⟩
  | 6 => ⟨S8x256x40x40, .f32⟩
  | 7 => ⟨S1x1x4, .f32⟩
  | 8 => ⟨S8x100x4, .f32⟩
  | 9 => ⟨S8x100x4, .f32⟩
  | 10 => ⟨S8x100x4, .f32⟩
  | 11 => ⟨S8x100x1, .f32⟩
  | 12 => ⟨S8x100, .f32⟩
  | 13 => ⟨S_, .f32⟩
  | 14 => ⟨S8x100, .f32⟩
  | 15 => ⟨S8x100, .f32⟩
  | 16 => ⟨S8x100x1, .f32⟩
  | 17 => ⟨S8x100, .f32⟩
  | 18 => ⟨S_, .f32⟩
  | 19 => ⟨S8x100, .f32⟩
  | 20 => ⟨S8x100, .f32⟩
  | 21 => ⟨S8x100x1, .f32⟩
  | 22 => ⟨S8x100, .f32⟩
  | 23 => ⟨S_, .f32⟩
  | 24 => ⟨S8x100, .f32⟩
  | 25 => ⟨S8x100, .f32⟩
  | 26 => ⟨S8x100x1, .f32⟩
  | 27 => ⟨S8x100, .f32⟩
  | 28 => ⟨S_, .f32⟩
  | 29 => ⟨S8x100, .f32⟩
  | 30 => ⟨S8x100, .f32⟩
  | 31 => ⟨S8x100, .i1⟩
  | 32 => ⟨S8x100, .i1⟩
  | 33 => ⟨S8x100, .i1⟩
  | 34 => ⟨S40, .f32⟩
  | 35 => ⟨S1x1x40, .f32⟩
  | 36 => ⟨S8x100x1, .f32⟩
  | 37 => ⟨S8x100x40, .f32⟩
  | 38 => ⟨S8x100x40, .f32⟩
  | 39 => ⟨S8x100x40, .i1⟩
  | 40 => ⟨S1x1x40, .f32⟩
  | 41 => ⟨S8x100x1, .f32⟩
  | 42 => ⟨S8x100x40, .f32⟩
  | 43 => ⟨S8x100x40, .f32⟩
  | 44 => ⟨S8x100x40, .i1⟩
  | 45 => ⟨S8x100x40, .i1⟩
  | 46 => ⟨S1x1x40, .f32⟩
  | 47 => ⟨S8x100x1, .f32⟩
  | 48 => ⟨S8x100x40, .f32⟩
  | 49 => ⟨S8x100x40, .f32⟩
  | 50 => ⟨S8x100x40, .i1⟩
  | 51 => ⟨S1x1x40, .f32⟩
  | 52 => ⟨S8x100x1, .f32⟩
  | 53 => ⟨S8x100x40, .f32⟩
  | 54 => ⟨S8x100x40, .f32⟩
  | 55 => ⟨S8x100x40, .i1⟩
  | 56 => ⟨S8x100x40, .i1⟩
  | 57 => ⟨S8x100x40x1, .i1⟩
  | 58 => ⟨S8x100x1x40, .i1⟩
  | 59 => ⟨S8x100x40x40, .i1⟩
  | 60 => ⟨S8x100x40x40, .i1⟩
  | 61 => ⟨S8x100x40x40, .i1⟩
  | 62 => ⟨S8x100x40x40, .f32⟩
  | 63 => ⟨S8x100x1x1, .i1⟩
  | 64 => ⟨S8x100x1x1, .f32⟩
  | 65 => ⟨S8x100x40x40, .f32⟩
  | 66 => ⟨S8x100x40x40, .f32⟩
  | 67 => ⟨S_, .f32⟩
  | 68 => ⟨S8x100, .f32⟩
  | 69 => ⟨S_, .f32⟩
  | 70 => ⟨S8x100, .f32⟩
  | 71 => ⟨S8x100, .f32⟩
  | 72 => ⟨S8x100x256, .f32⟩
  | 73 => ⟨S8x100x1, .f32⟩
  | 74 => ⟨S8x100x256, .f32⟩
  | 75 => ⟨S8x100x256, .f32⟩
  | 76 => ⟨S8x100, .f32⟩
  | 77 => ⟨S8, .i32⟩
  | 78 => ⟨S8x1, .i32⟩
  | 79 => ⟨S8x100x1, .f32⟩
  | 80 => ⟨S8x100x256, .f32⟩
  | 81 => ⟨S8x100x256, .f32⟩
  | 82 => ⟨S_, .f32⟩
  | 83 => ⟨S8x599x256, .f32⟩
  | 84 => ⟨S8x100, .i32⟩
  | 85 => ⟨S8x100x1, .i32⟩
  | 86 => ⟨S8x100x1, .i32⟩
  | 87 => ⟨S8x100x2, .i32⟩
  | 88 => ⟨S8x599x256, .f32⟩
  | 89 => ⟨S_, .f32⟩
  | 90 => ⟨S8x599, .f32⟩
  | 91 => ⟨S8x100, .i32⟩
  | 92 => ⟨S8x100x1, .i32⟩
  | 93 => ⟨S8x100x1, .i32⟩
  | 94 => ⟨S8x100x2, .i32⟩
  | 95 => ⟨S8x599, .f32⟩
  | 96 => ⟨S_, .f32⟩
  | 97 => ⟨S8x599, .f32⟩
  | 98 => ⟨S8x599, .f32⟩
  | 99 => ⟨S8x599x1, .f32⟩
  | 100 => ⟨S8x599x256, .f32⟩
  | 101 => ⟨S8x599x256, .f32⟩
  | _ => ⟨S8x256x64x64, .f32⟩

abbrev hbmTy (i : Nat) : BufTy := match i / 128 with
  | 0 => hbmTy0_0 i
  | 1 => hbmTy0_1 i
  | _ => ⟨S8x256x64x64, .f32⟩

abbrev bufTy : (tb : Table) → Fin (tcTables nBuf tb) → BufTy
  | .hbm, ⟨i, _⟩ => hbmTy i
  | _, _ => ⟨S8x256x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_call0_v0 : Ref sig .tc := ⟨.hbm, 4, rfl⟩
abbrev main_call0_cst : Ref sig .tc := ⟨.hbm, 5, rfl⟩
abbrev main_call0_v1 : Ref sig .tc := ⟨.hbm, 6, rfl⟩
abbrev main_call0_v2 : Ref sig .tc := ⟨.hbm, 7, rfl⟩
abbrev main_call0_cst_0 : Ref sig .tc := ⟨.hbm, 8, rfl⟩
abbrev main_call0_v3 : Ref sig .tc := ⟨.hbm, 9, rfl⟩
abbrev main_call0_v4 : Ref sig .tc := ⟨.hbm, 10, rfl⟩
abbrev main_call0_cst_1 : Ref sig .tc := ⟨.hbm, 11, rfl⟩
abbrev main_call0_v5 : Ref sig .tc := ⟨.hbm, 12, rfl⟩
abbrev main_call0_v6 : Ref sig .tc := ⟨.hbm, 13, rfl⟩
abbrev main_call0_cst_2 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_v15 : Ref sig .tc := ⟨.hbm, 23, rfl⟩
abbrev main_call0_cst_3 : Ref sig .tc := ⟨.hbm, 24, rfl⟩
abbrev main_call0_v16 : Ref sig .tc := ⟨.hbm, 25, rfl⟩
abbrev main_call0_v17 : Ref sig .tc := ⟨.hbm, 26, rfl⟩
abbrev main_call0_v18 : Ref sig .tc := ⟨.hbm, 27, rfl⟩
abbrev main_call0_cst_4 : Ref sig .tc := ⟨.hbm, 28, rfl⟩
abbrev main_call0_v19 : Ref sig .tc := ⟨.hbm, 29, rfl⟩
abbrev main_call0_v20 : Ref sig .tc := ⟨.hbm, 30, rfl⟩
abbrev main_call0_cst_5 : Ref sig .tc := ⟨.hbm, 31, rfl⟩
abbrev main_call0_v21 : Ref sig .tc := ⟨.hbm, 32, rfl⟩
abbrev main_call0_v22 : Ref sig .tc := ⟨.hbm, 33, rfl⟩
abbrev main_call0_cst_6 : Ref sig .tc := ⟨.hbm, 34, rfl⟩
abbrev main_call0_v23 : Ref sig .tc := ⟨.hbm, 35, rfl⟩
abbrev main_call0_v24 : Ref sig .tc := ⟨.hbm, 36, rfl⟩
abbrev main_call0_v25 : Ref sig .tc := ⟨.hbm, 37, rfl⟩
abbrev main_call0_cst_7 : Ref sig .tc := ⟨.hbm, 38, rfl⟩
abbrev main_call0_v26 : Ref sig .tc := ⟨.hbm, 39, rfl⟩
abbrev main_call0_v27 : Ref sig .tc := ⟨.hbm, 40, rfl⟩
abbrev main_call0_cst_8 : Ref sig .tc := ⟨.hbm, 41, rfl⟩
abbrev main_call0_v28 : Ref sig .tc := ⟨.hbm, 42, rfl⟩
abbrev main_call0_v29 : Ref sig .tc := ⟨.hbm, 43, rfl⟩
abbrev main_call0_c : Ref sig .tc := ⟨.hbm, 44, rfl⟩
abbrev main_call0_call0_v0 : Ref sig .tc := ⟨.hbm, 45, rfl⟩
abbrev main_call0_call0_v1 : Ref sig .tc := ⟨.hbm, 46, rfl⟩
abbrev main_call0_v30 : Ref sig .tc := ⟨.hbm, 47, rfl⟩
abbrev main_call0_v31 : Ref sig .tc := ⟨.hbm, 48, rfl⟩
abbrev main_call0_v32 : Ref sig .tc := ⟨.hbm, 49, rfl⟩
abbrev main_call0_c_9 : Ref sig .tc := ⟨.hbm, 50, rfl⟩
abbrev main_call0_call1_v0 : Ref sig .tc := ⟨.hbm, 51, rfl⟩
abbrev main_call0_call1_v1 : Ref sig .tc := ⟨.hbm, 52, rfl⟩
abbrev main_call0_call1_v2 : Ref sig .tc := ⟨.hbm, 53, rfl⟩
abbrev main_call0_v33 : Ref sig .tc := ⟨.hbm, 54, rfl⟩
abbrev main_call0_cst_10 : Ref sig .tc := ⟨.hbm, 55, rfl⟩
abbrev main_call0_v34 : Ref sig .tc := ⟨.hbm, 56, rfl⟩
abbrev main_call0_v35 : Ref sig .tc := ⟨.hbm, 57, rfl⟩
abbrev main_call0_cst_11 : Ref sig .tc := ⟨.hbm, 58, rfl⟩
abbrev main_call0_v36 : Ref sig .tc := ⟨.hbm, 59, rfl⟩
abbrev main_call0_v37 : Ref sig .tc := ⟨.hbm, 60, rfl⟩
abbrev main_call0_v38 : Ref sig .tc := ⟨.hbm, 61, rfl⟩
abbrev main_call0_v39 : Ref sig .tc := ⟨.hbm, 62, rfl⟩
abbrev main_call0_c_12 : Ref sig .tc := ⟨.hbm, 63, rfl⟩
abbrev main_call0_call2_v0 : Ref sig .tc := ⟨.hbm, 64, rfl⟩
abbrev main_call0_call2_v1 : Ref sig .tc := ⟨.hbm, 65, rfl⟩
abbrev main_call0_call2_v2 : Ref sig .tc := ⟨.hbm, 66, rfl⟩
abbrev main_call0_v40 : Ref sig .tc := ⟨.hbm, 67, rfl⟩
abbrev main_call0_v41 : Ref sig .tc := ⟨.hbm, 68, rfl⟩
abbrev main_call0_cst_13 : Ref sig .tc := ⟨.hbm, 69, rfl⟩
abbrev main_call0_v42 : Ref sig .tc := ⟨.hbm, 70, rfl⟩
abbrev main_call0_v43 : Ref sig .tc := ⟨.hbm, 71, rfl⟩
abbrev main_call0_cst_14 : Ref sig .tc := ⟨.hbm, 72, rfl⟩
abbrev main_call0_v44 : Ref sig .tc := ⟨.hbm, 73, rfl⟩
abbrev main_call0_v45 : Ref sig .tc := ⟨.hbm, 74, rfl⟩
abbrev main_call0_cst_15 : Ref sig .tc := ⟨.hbm, 75, rfl⟩
abbrev main_call0_v46 : Ref sig .tc := ⟨.hbm, 76, rfl⟩
abbrev main_call0_v47 : Ref sig .tc := ⟨.hbm, 77, rfl⟩
abbrev main_call0_cst_16 : Ref sig .tc := ⟨.hbm, 78, rfl⟩
abbrev main_call0_v48 : Ref sig .tc := ⟨.hbm, 79, rfl⟩
abbrev main_call0_v49 : Ref sig .tc := ⟨.hbm, 80, rfl⟩
abbrev main_call0_v50 : Ref sig .tc := ⟨.hbm, 81, rfl⟩
abbrev main_call0_v51 : Ref sig .tc := ⟨.hbm, 82, rfl⟩
abbrev main_call0_v52 : Ref sig .tc := ⟨.hbm, 83, rfl⟩
abbrev main_call0_v53 : Ref sig .tc := ⟨.hbm, 84, rfl⟩
abbrev main_call0_v54 : Ref sig .tc := ⟨.hbm, 85, rfl⟩
abbrev main_call0_v55 : Ref sig .tc := ⟨.hbm, 86, rfl⟩
abbrev main_call0_v56 : Ref sig .tc := ⟨.hbm, 87, rfl⟩
abbrev main_call0_cst_17 : Ref sig .tc := ⟨.hbm, 88, rfl⟩
abbrev main_call0_v57 : Ref sig .tc := ⟨.hbm, 89, rfl⟩
abbrev main_call0_v58 : Ref sig .tc := ⟨.hbm, 90, rfl⟩
abbrev main_call0_v59 : Ref sig .tc := ⟨.hbm, 91, rfl⟩
abbrev main_call0_cst_18 : Ref sig .tc := ⟨.hbm, 92, rfl⟩
abbrev main_call0_v60 : Ref sig .tc := ⟨.hbm, 93, rfl⟩
abbrev main_call0_v61 : Ref sig .tc := ⟨.hbm, 94, rfl⟩
abbrev main_call0_cst_19 : Ref sig .tc := ⟨.hbm, 95, rfl⟩
abbrev main_call0_v62 : Ref sig .tc := ⟨.hbm, 96, rfl⟩
abbrev main_call0_v63 : Ref sig .tc := ⟨.hbm, 97, rfl⟩
abbrev main_call0_cst_20 : Ref sig .tc := ⟨.hbm, 98, rfl⟩
abbrev main_call0_v64 : Ref sig .tc := ⟨.hbm, 99, rfl⟩
abbrev main_call0_v65 : Ref sig .tc := ⟨.hbm, 100, rfl⟩
abbrev main_call0_v66 : Ref sig .tc := ⟨.hbm, 101, rfl⟩
abbrev main_call0_cst_21 : Ref sig .tc := ⟨.hbm, 102, rfl⟩
abbrev main_call0_v67 : Ref sig .tc := ⟨.hbm, 103, rfl⟩
abbrev main_call0_v68 : Ref sig .tc := ⟨.hbm, 104, rfl⟩
abbrev main_call0_cst_22 : Ref sig .tc := ⟨.hbm, 105, rfl⟩
abbrev main_call0_v69 : Ref sig .tc := ⟨.hbm, 106, rfl⟩
abbrev main_call0_v70 : Ref sig .tc := ⟨.hbm, 107, rfl⟩
abbrev main_call0_c_23 : Ref sig .tc := ⟨.hbm, 108, rfl⟩
abbrev main_call0_call3_v0 : Ref sig .tc := ⟨.hbm, 109, rfl⟩
abbrev main_call0_call3_v1 : Ref sig .tc := ⟨.hbm, 110, rfl⟩
abbrev main_call0_v71 : Ref sig .tc := ⟨.hbm, 111, rfl⟩
abbrev main_call0_v72 : Ref sig .tc := ⟨.hbm, 112, rfl⟩
abbrev main_call0_v73 : Ref sig .tc := ⟨.hbm, 113, rfl⟩
abbrev main_call0_c_24 : Ref sig .tc := ⟨.hbm, 114, rfl⟩
abbrev main_call0_call4_v0 : Ref sig .tc := ⟨.hbm, 115, rfl⟩
abbrev main_call0_call4_v1 : Ref sig .tc := ⟨.hbm, 116, rfl⟩
abbrev main_call0_call4_v2 : Ref sig .tc := ⟨.hbm, 117, rfl⟩
abbrev main_call0_v74 : Ref sig .tc := ⟨.hbm, 118, rfl⟩
abbrev main_call0_cst_25 : Ref sig .tc := ⟨.hbm, 119, rfl⟩
abbrev main_call0_v75 : Ref sig .tc := ⟨.hbm, 120, rfl⟩
abbrev main_call0_v76 : Ref sig .tc := ⟨.hbm, 121, rfl⟩
abbrev main_call0_cst_26 : Ref sig .tc := ⟨.hbm, 122, rfl⟩
abbrev main_call0_v77 : Ref sig .tc := ⟨.hbm, 123, rfl⟩
abbrev main_call0_v78 : Ref sig .tc := ⟨.hbm, 124, rfl⟩
abbrev main_call0_v79 : Ref sig .tc := ⟨.hbm, 125, rfl⟩
abbrev main_call0_v80 : Ref sig .tc := ⟨.hbm, 126, rfl⟩
abbrev main_call0_c_27 : Ref sig .tc := ⟨.hbm, 127, rfl⟩
abbrev main_call0_call5_v0 : Ref sig .tc := ⟨.hbm, 128, rfl⟩
abbrev main_call0_call5_v1 : Ref sig .tc := ⟨.hbm, 129, rfl⟩
abbrev main_call0_call5_v2 : Ref sig .tc := ⟨.hbm, 130, rfl⟩
abbrev main_call0_v81 : Ref sig .tc := ⟨.hbm, 131, rfl⟩
abbrev main_call0_v82 : Ref sig .tc := ⟨.hbm, 132, rfl⟩
abbrev main_call0_v83 : Ref sig .tc := ⟨.hbm, 133, rfl⟩
abbrev main_v0 : Ref sig .tc := ⟨.hbm, 134, rfl⟩
abbrev main_v1 : Ref sig .tc := ⟨.hbm, 135, rfl⟩
abbrev main_v2 : Ref sig .tc := ⟨.hbm, 136, rfl⟩
abbrev main_v3 : Ref sig .tc := ⟨.hbm, 137, rfl⟩
abbrev main_v4 : Ref sig .tc := ⟨.hbm, 138, rfl⟩
abbrev main_v5 : Ref sig .tc := ⟨.hbm, 139, rfl⟩
abbrev main_v6 : Ref sig .tc := ⟨.hbm, 140, rfl⟩
abbrev main_cst_0 : Ref sig .tc := ⟨.hbm, 141, rfl⟩
abbrev main_v7 : Ref sig .tc := ⟨.hbm, 142, rfl⟩
abbrev main_v8 : Ref sig .tc := ⟨.hbm, 143, rfl⟩
abbrev main_v9 : Ref sig .tc := ⟨.hbm, 144, rfl⟩
abbrev main_v10 : Ref sig .tc := ⟨.hbm, 145, rfl⟩
abbrev main_cst_1 : Ref sig .tc := ⟨.hbm, 146, rfl⟩
abbrev main_v11 : Ref sig .tc := ⟨.hbm, 147, rfl⟩
abbrev main_v12 : Ref sig .tc := ⟨.hbm, 148, rfl⟩
abbrev main_v13 : Ref sig .tc := ⟨.hbm, 149, rfl⟩
abbrev main_v14 : Ref sig .tc := ⟨.hbm, 150, rfl⟩
abbrev main_cst_2 : Ref sig .tc := ⟨.hbm, 151, rfl⟩
abbrev main_v15 : Ref sig .tc := ⟨.hbm, 152, rfl⟩
abbrev main_v16 : Ref sig .tc := ⟨.hbm, 153, rfl⟩
abbrev main_v17 : Ref sig .tc := ⟨.hbm, 154, rfl⟩
abbrev main_v18 : Ref sig .tc := ⟨.hbm, 155, rfl⟩
abbrev main_cst_3 : Ref sig .tc := ⟨.hbm, 156, rfl⟩
abbrev main_v19 : Ref sig .tc := ⟨.hbm, 157, rfl⟩
abbrev main_v20 : Ref sig .tc := ⟨.hbm, 158, rfl⟩
abbrev main_v21 : Ref sig .tc := ⟨.hbm, 159, rfl⟩
abbrev main_v22 : Ref sig .tc := ⟨.hbm, 160, rfl⟩
abbrev main_v23 : Ref sig .tc := ⟨.hbm, 161, rfl⟩
abbrev main_v24 : Ref sig .tc := ⟨.hbm, 162, rfl⟩
abbrev main_v25 : Ref sig .tc := ⟨.hbm, 163, rfl⟩
abbrev main_v26 : Ref sig .tc := ⟨.hbm, 164, rfl⟩
abbrev main_v27 : Ref sig .tc := ⟨.hbm, 165, rfl⟩
abbrev main_v28 : Ref sig .tc := ⟨.hbm, 166, rfl⟩
abbrev main_v29 : Ref sig .tc := ⟨.hbm, 167, rfl⟩
abbrev main_v30 : Ref sig .tc := ⟨.hbm, 168, rfl⟩
abbrev main_v31 : Ref sig .tc := ⟨.hbm, 169, rfl⟩
abbrev main_v32 : Ref sig .tc := ⟨.hbm, 170, rfl⟩
abbrev main_v33 : Ref sig .tc := ⟨.hbm, 171, rfl⟩
abbrev main_v34 : Ref sig .tc := ⟨.hbm, 172, rfl⟩
abbrev main_v35 : Ref sig .tc := ⟨.hbm, 173, rfl⟩
abbrev main_v36 : Ref sig .tc := ⟨.hbm, 174, rfl⟩
abbrev main_v37 : Ref sig .tc := ⟨.hbm, 175, rfl⟩
abbrev main_v38 : Ref sig .tc := ⟨.hbm, 176, rfl⟩
abbrev main_v39 : Ref sig .tc := ⟨.hbm, 177, rfl⟩
abbrev main_v40 : Ref sig .tc := ⟨.hbm, 178, rfl⟩
abbrev main_v41 : Ref sig .tc := ⟨.hbm, 179, rfl⟩
abbrev main_v42 : Ref sig .tc := ⟨.hbm, 180, rfl⟩
abbrev main_v43 : Ref sig .tc := ⟨.hbm, 181, rfl⟩
abbrev main_v44 : Ref sig .tc := ⟨.hbm, 182, rfl⟩
abbrev main_v45 : Ref sig .tc := ⟨.hbm, 183, rfl⟩
abbrev main_v46 : Ref sig .tc := ⟨.hbm, 184, rfl⟩
abbrev main_v47 : Ref sig .tc := ⟨.hbm, 185, rfl⟩
abbrev main_v48 : Ref sig .tc := ⟨.hbm, 186, rfl⟩
abbrev main_v49 : Ref sig .tc := ⟨.hbm, 187, rfl⟩
abbrev main_v50 : Ref sig .tc := ⟨.hbm, 188, rfl⟩
abbrev main_v51 : Ref sig .tc := ⟨.hbm, 189, rfl⟩
abbrev main_v52 : Ref sig .tc := ⟨.hbm, 190, rfl⟩
abbrev main_v53 : Ref sig .tc := ⟨.hbm, 191, rfl⟩
abbrev main_v54 : Ref sig .tc := ⟨.hbm, 192, rfl⟩
abbrev main_v55 : Ref sig .tc := ⟨.hbm, 193, rfl⟩
abbrev main_v56 : Ref sig .tc := ⟨.hbm, 194, rfl⟩
abbrev main_cst_4 : Ref sig .tc := ⟨.hbm, 195, rfl⟩
abbrev main_v57 : Ref sig .tc := ⟨.hbm, 196, rfl⟩
abbrev main_cst_5 : Ref sig .tc := ⟨.hbm, 197, rfl⟩
abbrev main_v58 : Ref sig .tc := ⟨.hbm, 198, rfl⟩
abbrev main_v59 : Ref sig .tc := ⟨.hbm, 199, rfl⟩
abbrev main_v60 : Ref sig .tc := ⟨.hbm, 200, rfl⟩
abbrev main_v61 : Ref sig .tc := ⟨.hbm, 201, rfl⟩
abbrev main_v62 : Ref sig .tc := ⟨.hbm, 202, rfl⟩
abbrev main_v63 : Ref sig .tc := ⟨.hbm, 203, rfl⟩
abbrev main_v64 : Ref sig .tc := ⟨.hbm, 204, rfl⟩
abbrev main_v65 : Ref sig .tc := ⟨.hbm, 205, rfl⟩
abbrev main_v66 : Ref sig .tc := ⟨.hbm, 206, rfl⟩
abbrev main_v67 : Ref sig .tc := ⟨.hbm, 207, rfl⟩
abbrev main_v68 : Ref sig .tc := ⟨.hbm, 208, rfl⟩
abbrev main_v69 : Ref sig .tc := ⟨.hbm, 209, rfl⟩
abbrev main_cst_6 : Ref sig .tc := ⟨.hbm, 210, rfl⟩
abbrev main_v70 : Ref sig .tc := ⟨.hbm, 211, rfl⟩
abbrev main_v71 : Ref sig .tc := ⟨.hbm, 212, rfl⟩
abbrev main_v72 : Ref sig .tc := ⟨.hbm, 213, rfl⟩
abbrev main_v73 : Ref sig .tc := ⟨.hbm, 214, rfl⟩
abbrev main_v74 : Ref sig .tc := ⟨.hbm, 215, rfl⟩
abbrev main_v75 : Ref sig .tc := ⟨.hbm, 216, rfl⟩
abbrev main_cst_7 : Ref sig .tc := ⟨.hbm, 217, rfl⟩
abbrev main_v76 : Ref sig .tc := ⟨.hbm, 218, rfl⟩
abbrev main_v77 : Ref sig .tc := ⟨.hbm, 219, rfl⟩
abbrev main_v78 : Ref sig .tc := ⟨.hbm, 220, rfl⟩
abbrev main_v79 : Ref sig .tc := ⟨.hbm, 221, rfl⟩
abbrev main_v80 : Ref sig .tc := ⟨.hbm, 222, rfl⟩
abbrev main_v81 : Ref sig .tc := ⟨.hbm, 223, rfl⟩
abbrev main_cst_8 : Ref sig .tc := ⟨.hbm, 224, rfl⟩
abbrev main_v82 : Ref sig .tc := ⟨.hbm, 225, rfl⟩
abbrev main_v83 : Ref sig .tc := ⟨.hbm, 226, rfl⟩
abbrev main_v84 : Ref sig .tc := ⟨.hbm, 227, rfl⟩
abbrev main_v85 : Ref sig .tc := ⟨.hbm, 228, rfl⟩
abbrev main_v86 : Ref sig .tc := ⟨.hbm, 229, rfl⟩

abbrev nD : Nat := 1
abbrev τ : Topo := Topo.v7x

variable {F : FTy → Type} [FloatOps F]
-- ==== Proof.Bits.lean ====
/- The indicators both programs build from comparisons, as real numbers that are zero or one. -/
module

public import Idealize.ShloMosaic.PureOps.Ideal

@[expose] public section

noncomputable section

namespace Cert.Pool

open Idealize.ShloMosaic
open Classical

/-- One where `p` holds, zero elsewhere. -/
def ind (p : Prop) : ℝ := if p then 1 else 0

/-- An indicator is nonnegative. -/
theorem ind_nonneg (p : Prop) : 0 ≤ ind p := by
  unfold ind; split <;> norm_num

/-- An indicator is zero or one. -/
theorem ind_cases (p : Prop) : ind p = 0 ∨ ind p = 1 := by
  unfold ind; split <;> simp

/-- Two propositions that are equivalent have the same indicator. -/
theorem ind_congr {p q : Prop} (h : p ↔ q) : ind p = ind q := by
  unfold ind; simp only [h]

/-- A bit read as an unsigned number is the indicator of its being set. -/
theorem uitofp_bit (b : BitVec 1) : (FloatOps.uitofp (F := Ideal) FTy.f32 b : EReal) = ((ind (b = 1#1) : ℝ) : EReal) := by
  have h : ∀ b : BitVec 1, b = 0#1 ∨ b = 1#1 := by decide
  show (((b.toNat : ℝ)) : EReal) = _
  rcases h b with rfl | rfl <;> simp [ind]

/-- A bit widened to 32 bits and read as a signed number is the indicator of its being set. -/
theorem sitofp_bit (b : BitVec 1) :
    (FloatOps.sitofp (F := Ideal) FTy.f32 (b.setWidth 32) : EReal) = ((ind (b = 1#1) : ℝ) : EReal) := by
  have h : ∀ b : BitVec 1, b = 0#1 ∨ b = 1#1 := by decide
  show ((((b.setWidth 32).toInt : ℝ)) : EReal) = _
  rcases h b with rfl | rfl <;> simp [ind]

/-- The bit of a proposition is set exactly when it holds. -/
theorem ofBool_eq_one (p : Prop) [Decidable p] : BitVec.ofBool (decide p) = 1#1 ↔ p := by
  by_cases h : p <;> simp [h]

/-- The conjunction of two bits is set exactly when both are. -/
theorem andi_eq_one (a b : BitVec 1) : IntOp.andi a b = 1#1 ↔ a = 1#1 ∧ b = 1#1 := by
  revert a b; decide

/-- The indicator of a conjunction is the product of the indicators. -/
theorem ind_and (p q : Prop) : ind (p ∧ q) = ind p * ind q := by
  unfold ind
  by_cases hp : p <;> by_cases hq : q <;> simp [hp, hq]

/-- The comparison of two words for equality is set exactly when they are equal. -/
theorem cmpi_eq_one (a b : BitVec 32) : IntOp.cmpi .eq a b = 1#1 ↔ a = b := by
  show BitVec.ofBool (a == b) = 1#1 ↔ a = b
  by_cases h : a = b
  · simp [h]
  · rw [beq_eq_false_iff_ne.2 h]
    simp [h]

/-- A small number as a word equals `x` exactly when `x` read signed is that number. -/
theorem ofNat_eq_iff (k : Nat) (hk : k < 599) (x : BitVec 32) : BitVec.ofNat 32 k = x ↔ x.toInt = (k : Int) := by
  constructor
  · rintro rfl
    rw [BitVec.toInt_ofNat']
    apply Int.bmod_eq_of_le <;> omega
  · intro h
    apply BitVec.eq_of_toInt_eq
    rw [h, BitVec.toInt_ofNat']
    apply Int.bmod_eq_of_le <;> omega

/-- The low edge of a box on the 40 × 40 grid. -/
def lo (x : EReal) : EReal := max (Ideal.liftRound Ideal.roundHalfEven (x * Ideal.ofBits FTy.f32 1025507328#32)) 0

/-- The high edge of a box on the 40 × 40 grid. -/
def hi (x : EReal) : EReal :=
  min (Ideal.liftRound Ideal.roundHalfEven (x * Ideal.ofBits FTy.f32 1025507328#32)) (Ideal.ofBits FTy.f32 1109393408#32)

/-- A grid coordinate as a number. -/
def coord (h : Fin 40) : EReal := FloatOps.sitofp (F := Ideal) FTy.f32 (BitVec.ofNat 32 ↑h)

/-- Whether the grid coordinate `h` lies in a box side from `x` to `y`. -/
def side (x y : EReal) (h : Fin 40) : ℝ := ind (lo x ≤ coord h ∧ coord h < hi y)

/-- Whether the box with corners `x0 x1` and `x2 x3` is not empty. -/
def full (x0 x1 x2 x3 : EReal) : ℝ := ind (lo x0 < hi x2 ∧ lo x1 < hi x3)

end Cert.Pool

end
-- ==== Proof.KernelBlock.lean ====
/- What one block of the kernel computes, as functions of the blocks it reads. -/
module

public import proofs.«01_k».proof.Proof.Bits
public import proofs.«01_k».proof.Proof.Gen.KernelIdeal.Value
public import Idealize.ShloMosaic.Lib.Pointwise
public import Idealize.ShloMosaic.Lib.Claim

@[expose] public section

set_option maxRecDepth 16384

noncomputable section

namespace Cert.KernelIdeal.Block

open Idealize.ShloMosaic Idealize.ShloMosaic.TcCoe Idealize.SL.Sem
open Cert.KernelIdeal Cert.KernelIdeal.Gen Cert.Pool

variable (x : FVec Ideal S1x100x4 .f32) (k : IVec S1x1x100 32) (rh rw : FVec Ideal S40x4096 .f32) (f : FVec Ideal S1x128x4096 .f32)

/-- Which rows of the grid lie in box `n`. -/
def rows (n : Fin 100) (h : Fin 40) : ℝ := side (x (ix3 0 n 1)) (x (ix3 0 n 3)) h

/-- Which columns of the grid lie in box `n`. -/
def cols (n : Fin 100) (w : Fin 40) : ℝ := side (x (ix3 0 n 0)) (x (ix3 0 n 2)) w

/-- Whether box `n` is not empty. -/
def valid (n : Fin 100) : ℝ := full (x (ix3 0 n 0)) (x (ix3 0 n 1)) (x (ix3 0 n 2)) (x (ix3 0 n 3))

/-- The weights of the boxes over the flattened positions, as the kernel stores them. -/
def boxWeights : FVec Ideal S100x4096 .f32 :=
  k0_pay1 (k0_pay13 x) (k0_pay14 x) (k0_pay15 x) (k0_pay16 x) (k0_pay17 (F := Ideal)) rh rw

/-- Which boxes have which class, as the kernel stores it. -/
def oneHot : FVec Ideal S599x100 .f32 := k0_pay3 (F := Ideal) (k0_pay6 (F := Ideal) k)

/-- The reciprocals of the class counts, as the kernel stores them. -/
def invCounts : FVec Ideal S599x1 .f32 := k0_pay4 (k0_pay6 (F := Ideal) k) (k0_pay15 x)

/-- The row indicator at an index. -/
theorem pay13_at (n : Fin 100) (h : Fin 40) : k0_pay13 (F := Ideal) x (ix2 n h) = (rows x n h : EReal) := by
  pointwise [k0_pay13, k0_pay12, k0_pay9, k0_pay11, k0_pay7]
  rw [sitofp_bit]
  refine congrArg (fun r : ℝ => (r : EReal)) (ind_congr ?_)
  rw [andi_eq_one, ofBool_eq_one, ofBool_eq_one]
  exact Iff.rfl

/-- The column indicator at an index. -/
theorem pay14_at (n : Fin 100) (w : Fin 40) : k0_pay14 (F := Ideal) x (ix2 n w) = (cols x n w : EReal) := by
  pointwise [k0_pay14, k0_pay12, k0_pay8, k0_pay10, k0_pay7]
  rw [sitofp_bit]
  refine congrArg (fun r : ℝ => (r : EReal)) (ind_congr ?_)
  rw [andi_eq_one, ofBool_eq_one, ofBool_eq_one]
  exact Iff.rfl

/-- The validity at an index. -/
theorem pay15_at (n : Fin 100) : k0_pay15 (F := Ideal) x (ix2 n 0) = (valid x n : EReal) := by
  pointwise [k0_pay15, k0_pay8, k0_pay9, k0_pay10, k0_pay11, k0_pay7]
  rw [sitofp_bit]
  refine congrArg (fun r : ℝ => (r : EReal)) (ind_congr ?_)
  rw [andi_eq_one, ofBool_eq_one, ofBool_eq_one]
  exact Iff.rfl

/-- The area at an index. -/
theorem pay16_at (n : Fin 100) : k0_pay16 (F := Ideal) x (ix2 n 0) = (∑ h, (rows x n h : EReal)) * ∑ w, (cols x n w : EReal) := by
  simp only [← pay13_at, ← pay14_at]
  pointwise [k0_pay16]

/-- The box weights at an index. -/
theorem boxWeights_at (n : Fin 100) (p : Fin 4096) :
    boxWeights x rh rw (ix2 n p)
      = (∑ h, (rows x n h : EReal) * rh (ix2 h p)) * (∑ w, (cols x n w : EReal) * rw (ix2 w p))
          * Ideal.div (valid x n : EReal) (max ((∑ h, (rows x n h : EReal)) * ∑ w, (cols x n w : EReal)) 1) := by
  rw [← pay15_at, ← pay16_at]
  simp only [← pay13_at, ← pay14_at]
  pointwise [boxWeights, k0_pay1, k0_pay17]

/-- The class indicator at an index. -/
theorem oneHot_at (q : Fin 599) (n : Fin 100) : oneHot k (ix2 q n) = ((ind ((k (ix3 0 0 n)).toInt = (q.val : Int)) : ℝ) : EReal) := by
  pointwise [oneHot, k0_pay3, k0_pay2, k0_pay6]
  rw [sitofp_bit]
  refine congrArg (fun r : ℝ => (r : EReal)) (ind_congr ?_)
  rw [cmpi_eq_one]
  exact ofNat_eq_iff q q.isLt _

/-- The reciprocal of a class count at an index. -/
theorem invCounts_at (q : Fin 599) :
    invCounts x k (ix2 q 0) = Ideal.div 1 (max (∑ n, ((ind ((k (ix3 0 0 n)).toInt = (q.val : Int)) : ℝ) : EReal) * (valid x n : EReal)) 1) := by
  simp only [← oneHot_at, ← pay15_at]
  pointwise [invCounts, k0_pay4, oneHot, k0_pay3]

/-- A block of the output at an index. -/
theorem out_at (w : FVec Ideal S100x4096 .f32) (o : FVec Ideal S599x100 .f32) (i : FVec Ideal S599x1 .f32) (q : Fin 599) (j : Fin 128) :
    k0_pay5 w f o i (ix3 0 q j) = (∑ n, o (ix2 q n) * ∑ p, w (ix2 n p) * f (ix3 0 j p)) * i (ix2 q 0) := by
  pointwise [k0_pay5]

end Cert.KernelIdeal.Block

end
-- ==== Proof.RefDefs.lean ====
/- The reference's value, step by step, as functions of its three arguments. -/
module

public import proofs.«01_k».proof.Proof.Gen.ReferenceIdeal
public import Idealize.ShloMosaic.PureOps.Ideal

@[expose] public section

set_option maxRecDepth 16384

noncomputable section

namespace Cert.RefValue

open Idealize.ShloMosaic
open Cert.ReferenceIdeal Cert.ReferenceIdeal.Gen

/-- The source coordinate of each of the 40 output coordinates. -/
def sample : FVec Ideal S40 .f32 :=
  subf (subf (mulf (addf (sitofp .f32 (iotaInDim S40 32 0)) (broadcastInDim S40 ![] bcast_S_S40 (constant S_ .f32 0x3F000000#32)))
      (broadcastInDim S40 ![] bcast_S_S40 (constant S_ .f32 0x3FCCCCCD#32)))
    (broadcastInDim S40 ![] bcast_S_S40 (constant S_ .f32 0x00000000#32)))
    (broadcastInDim S40 ![] bcast_S_S40 (constant S_ .f32 0x3F000000#32))

/-- The triangle weights before they are normalised. -/
def tri : FVec Ideal S64x40 .f32 :=
  maximumf (broadcastInDim S64x40 ![] bcast_S_S64x40 (constant S_ .f32 0x00000000#32))
    (subf (broadcastInDim S64x40 ![] bcast_S_S64x40 (constant S_ .f32 0x3F800000#32))
      (Host.absf (Host.divf
        (Host.absf (subf
          (broadcastInDim S64x40 ![0, 1] bcast_S1x40_S64x40_0_1 (broadcastInDim S1x40 ![1] bcast_S40_S1x40_1 sample))
          (broadcastInDim S64x40 ![0, 1] bcast_S64x1_S64x40_0_1
            (broadcastInDim S64x1 ![0] bcast_S64_S64x1_0 (sitofp .f32 (iotaInDim S64 32 0))))))
        (broadcastInDim S64x40 ![] bcast_S_S64x40 (constant S_ .f32 0x3F800000#32)))))

/-- The sum of the triangle weights of each output coordinate. -/
def total : FVec Ideal S1x40 .f32 :=
  broadcastInDim S1x40 ![1] bcast_S40_S1x40_1
    (Host.reduceAdd tri (constant S_ .f32 0x00000000#32) reducesTo_S64x40_S40_d0 h_S_)

/-- The weights divided by their sum, zero where the sum is negligible. -/
def normed : FVec Ideal S64x40 .f32 :=
  select (broadcastInDim S64x40 ![0, 1] bcast_S1x40_S64x40_0_1
      (cmpf .ogt (Host.absf total) (broadcastInDim S1x40 ![] bcast_S_S1x40 (constant S_ .f32 0x38FA0000#32))))
    (Host.divf tri (broadcastInDim S64x40 ![0, 1] bcast_S1x40_S64x40_0_1
      (select (cmpf .une total (broadcastInDim S1x40 ![] bcast_S_S1x40 (constant S_ .f32 0x00000000#32))) total
        (broadcastInDim S1x40 ![] bcast_S_S1x40 (sitofp .f32 (constantI S_ 32 1#32))))))
    (broadcastInDim S64x40 ![] bcast_S_S64x40 (sitofp .f32 (constantI S_ 32 0#32)))

/-- The bilinear resize's weight matrix: zero where the source coordinate is out of range. -/
def wmat : FVec Ideal S64x40 .f32 :=
  select (broadcastInDim S64x40 ![0, 1] bcast_S1x40_S64x40_0_1 (broadcastInDim S1x40 ![1] bcast_S40_S1x40_1
      (andi (cmpf .oge sample (broadcastInDim S40 ![] bcast_S_S40 (constant S_ .f32 0xBF000000#32)))
        (cmpf .ole sample (broadcastInDim S40 ![] bcast_S_S40 (constant S_ .f32 0x427E0000#32))))))
    normed (broadcastInDim S64x40 ![] bcast_S_S64x40 (sitofp .f32 (constantI S_ 32 0#32)))

/-- The features resized from 64 × 64 to 40 × 40. -/
def resized (f : FVec Ideal S8x256x64x64 .f32) : FVec Ideal S8x256x40x40 .f32 :=
  transpose S8x256x40x40 [1, 2, 0, 3]
    (Host.dotGeneral dot_S40x8x256x64_S64x40_S40x8x256x40_3_0_012_1_n_n (some .fp32)
      (Host.dotGeneral dot_S64x40_S8x256x64x64_S40x8x256x64_0_2_1_013_n_n (some .fp32) wmat f) wmat)
    transposes_S40x8x256x40_S8x256x40x40_1_2_0_3

/-- The boxes on the 40 × 40 grid, rounded to integers. -/
def grid (b : FVec Ideal S8x100x4 .f32) : FVec Ideal S8x100x4 .f32 :=
  Host.roundeven (mulf b (broadcastInDim S8x100x4 ![0, 1, 2] bcast_S1x1x4_S8x100x4_0_1_2
    (broadcastInDim S1x1x4 ![2] bcast_S4_S1x1x4_2 (constant S4 .f32 0x3D200000#32))))

/-- The left edges. -/
def left (b : FVec Ideal S8x100x4 .f32) : FVec Ideal S8x100 .f32 :=
  maximumf (fun i => shapeCast S8x100 (extractStridedSlice S8x100x1 ![0, 0, 0] (grid b) slices_S8x100x4_S8x100x1_0_0_0) shapeCasts_S8x100x1_S8x100 i)
    (broadcastInDim S8x100 ![] bcast_S_S8x100 (constant S_ .f32 0x00000000#32))

/-- The top edges. -/
def top (b : FVec Ideal S8x100x4 .f32) : FVec Ideal S8x100 .f32 :=
  maximumf (fun i => shapeCast S8x100 (extractStridedSlice S8x100x1 ![0, 0, 1] (grid b) slices_S8x100x4_S8x100x1_0_0_1) shapeCasts_S8x100x1_S8x100 i)
    (broadcastInDim S8x100 ![] bcast_S_S8x100 (constant S_ .f32 0x00000000#32))

/-- The right edges. -/
def right (b : FVec Ideal S8x100x4 .f32) : FVec Ideal S8x100 .f32 :=
  minimumf (fun i => shapeCast S8x100 (extractStridedSlice S8x100x1 ![0, 0, 2] (grid b) slices_S8x100x4_S8x100x1_0_0_2) shapeCasts_S8x100x1_S8x100 i)
    (broadcastInDim S8x100 ![] bcast_S_S8x100 (constant S_ .f32 0x42200000#32))

/-- The bottom edges. -/
def bottom (b : FVec Ideal S8x100x4 .f32) : FVec Ideal S8x100 .f32 :=
  minimumf (fun i => shapeCast S8x100 (extractStridedSlice S8x100x1 ![0, 0, 3] (grid b) slices_S8x100x4_S8x100x1_0_0_3) shapeCasts_S8x100x1_S8x100 i)
    (broadcastInDim S8x100 ![] bcast_S_S8x100 (constant S_ .f32 0x42200000#32))

/-- Which boxes are not empty. -/
def valid (b : FVec Ideal S8x100x4 .f32) : IVec S8x100 1 :=
  andi (cmpf .olt (left b) (right b)) (cmpf .olt (top b) (bottom b))

/-- Which of the 40 coordinates lie in `[lo, hi)`, box by box. -/
def between (lo hi : FVec Ideal S8x100 .f32) : IVec S8x100x40 1 :=
  andi
    (cmpf .oge
      (broadcastInDim S8x100x40 ![0, 1, 2] bcast_S1x1x40_S8x100x40_0_1_2
        (broadcastInDim S1x1x40 ![2] bcast_S40_S1x1x40_2 (sitofp (F := Ideal) .f32 (iotaInDim S40 32 0))))
      (broadcastInDim S8x100x40 ![0, 1, 2] bcast_S8x100x1_S8x100x40_0_1_2
        (broadcastInDim S8x100x1 ![0, 1] bcast_S8x100_S8x100x1_0_1 lo)))
    (cmpf .olt
      (broadcastInDim S8x100x40 ![0, 1, 2] bcast_S1x1x40_S8x100x40_0_1_2
        (broadcastInDim S1x1x40 ![2] bcast_S40_S1x1x40_2 (sitofp (F := Ideal) .f32 (iotaInDim S40 32 0))))
      (broadcastInDim S8x100x40 ![0, 1, 2] bcast_S8x100x1_S8x100x40_0_1_2
        (broadcastInDim S8x100x1 ![0, 1] bcast_S8x100_S8x100x1_0_1 hi)))

/-- The mask of each box on the 40 × 40 grid, zero for an empty box. -/
def mask (b : FVec Ideal S8x100x4 .f32) : FVec Ideal S8x100x40x40 .f32 :=
  mulf
    (uitofp .f32 (andi
      (broadcastInDim S8x100x40x40 ![0, 1, 2, 3] bcast_S8x100x40x1_S8x100x40x40_0_1_2_3
        (broadcastInDim S8x100x40x1 ![0, 1, 2] bcast_S8x100x40_S8x100x40x1_0_1_2 (between (top b) (bottom b))))
      (broadcastInDim S8x100x40x40 ![0, 1, 2, 3] bcast_S8x100x1x40_S8x100x40x40_0_1_2_3
        (broadcastInDim S8x100x1x40 ![0, 1, 3] bcast_S8x100x40_S8x100x1x40_0_1_3 (between (left b) (right b))))))
    (broadcastInDim S8x100x40x40 ![0, 1, 2, 3] bcast_S8x100x1x1_S8x100x40x40_0_1_2_3
      (uitofp .f32 (broadcastInDim S8x100x1x1 ![0, 1] bcast_S8x100_S8x100x1x1_0_1 (valid b))))

/-- The area of each box, at least one. -/
def area (b : FVec Ideal S8x100x4 .f32) : FVec Ideal S8x100 .f32 :=
  maximumf (Host.reduceAdd (mask b) (constant S_ .f32 0x00000000#32) reducesTo_S8x100x40x40_S8x100_d3_2 h_S_)
    (broadcastInDim S8x100 ![] bcast_S_S8x100 (constant S_ .f32 0x3F800000#32))

/-- The validity of each box as a number. -/
def validf (b : FVec Ideal S8x100x4 .f32) : FVec Ideal S8x100 .f32 := uitofp .f32 (valid b)

/-- The pooled feature of each box, zero for an empty box. -/
def pooled (f : FVec Ideal S8x256x64x64 .f32) (b : FVec Ideal S8x100x4 .f32) : FVec Ideal S8x100x256 .f32 :=
  mulf
    (Host.divf
      (Host.dotGeneral dot_S8x100x40x40_S8x256x40x40_S8x100x256_23_23_1_1_0_0 none (mask b) (resized f))
      (broadcastInDim S8x100x256 ![0, 1, 2] bcast_S8x100x1_S8x100x256_0_1_2
        (broadcastInDim S8x100x1 ![0, 1] bcast_S8x100_S8x100x1_0_1 (area b))))
    (broadcastInDim S8x100x256 ![0, 1, 2] bcast_S8x100x1_S8x100x256_0_1_2
      (broadcastInDim S8x100x1 ![0, 1] bcast_S8x100_S8x100x1_0_1 (validf b)))

/-- The index pairs (image, class) the boxes are added at. -/
def target (k : IVec S8x100 32) : IVec S8x100x2 32 :=
  concatenate S8x100x2 2
    [⟨S8x100x1, broadcastInDim S8x100x1 ![0, 1] bcast_S8x100_S8x100x1_0_1
        (broadcastInDim S8x100 ![0, 1] bcast_S8x1_S8x100_0_1 (broadcastInDim S8x1 ![0] bcast_S8_S8x1_0 (iotaInDim S8 32 0)))⟩,
     ⟨S8x100x1, broadcastInDim S8x100x1 ![0, 1] bcast_S8x100_S8x100x1_0_1 k⟩]
    concatenates_S8x100x1_S8x100x1_S8x100x2_d2

/-- The sum of the pooled features of each class. -/
def sums (f : FVec Ideal S8x256x64x64 .f32) (b : FVec Ideal S8x100x4 .f32) (k : IVec S8x100 32) : FVec Ideal S8x599x256 .f32 :=
  Host.scatterAdd scatter_S8x599x256_S8x100x2_S8x100x256_2_01_01_2
    (broadcastInDim S8x599x256 ![] bcast_S_S8x599x256 (constant S_ .f32 0x00000000#32)) (target k) (pooled f b)

/-- The number of boxes of each class. -/
def counts (b : FVec Ideal S8x100x4 .f32) (k : IVec S8x100 32) : FVec Ideal S8x599 .f32 :=
  Host.scatterAdd scatter_S8x599_S8x100x2_S8x100_n_01_01_2
    (broadcastInDim S8x599 ![] bcast_S_S8x599 (constant S_ .f32 0x00000000#32)) (target k) (validf b)

/-- The reference's result: the mean of the pooled features of each class. -/
def result (f : FVec Ideal S8x256x64x64 .f32) (b : FVec Ideal S8x100x4 .f32) (k : IVec S8x100 32) : FVec Ideal S8x599x256 .f32 :=
  Host.divf (sums f b k)
    (broadcastInDim S8x599x256 ![0, 1, 2] bcast_S8x599x1_S8x599x256_0_1_2
      (broadcastInDim S8x599x1 ![0, 1] bcast_S8x599_S8x599x1_0_1
        (maximumf (counts b k) (broadcastInDim S8x599 ![] bcast_S_S8x599 (constant S_ .f32 0x3F800000#32)))))

end Cert.RefValue

end
-- ==== Proof.Weights.lean ====
/- The bilinear resize's weights are nonnegative real numbers. -/
module

public import proofs.«01_k».proof.Proof.RefDefs
public import Idealize.ShloMosaic.Lib.Pointwise
public import Idealize.ShloMosaic.Lib.Claim

@[expose] public section

set_option maxRecDepth 16384

noncomputable section

namespace Cert.RefValue

open Idealize.ShloMosaic Idealize.SL.Sem
open Cert.ReferenceIdeal Cert.ReferenceIdeal.Gen

/-- A word read as a signed number is real. -/
theorem sitofp_real (b : BitVec 32) : ∃ a : ℝ, (FloatOps.sitofp (F := Ideal) FTy.f32 b : EReal) = (a : EReal) := ⟨_, rfl⟩

/-- The absolute value of a real is real. -/
theorem absf_real (a : ℝ) : (FloatOps.absf (F := Ideal) (φ := .f32) (a : EReal) : EReal) = ((|a| : ℝ) : EReal) := by
  show max (a : EReal) (-(a : EReal)) = _
  rw [← EReal.coe_neg, abs_eq_max_neg]
  exact (EReal.coe_strictMono.monotone.map_max).symm

/-- The source coordinates are real. -/
theorem sample_real (j : Fin 40) : ∃ a : ℝ, sample (ix1 j) = (a : EReal) := by
  pointwise [sample]
  obtain ⟨a, ha⟩ := sitofp_real (BitVec.ofNat 32 j)
  rw [ha]
  have h1 : ∃ r : ℝ, Ideal.ofBits FTy.f32 1056964608#32 = (r : EReal) := ⟨_, rfl⟩
  have h2 : ∃ r : ℝ, Ideal.ofBits FTy.f32 1070386381#32 = (r : EReal) := ⟨_, rfl⟩
  obtain ⟨r, hr⟩ := h1
  obtain ⟨s, hs⟩ := h2
  rw [hr, hs]
  exact ⟨(a + r) * s - r, by push_cast; rfl⟩

/-- The triangle weights are nonnegative reals. -/
theorem tri_real (i : Fin 64) (j : Fin 40) : ∃ a : ℝ, 0 ≤ a ∧ tri (ix2 i j) = (a : EReal) := by
  pointwise [tri]
  obtain ⟨a, ha⟩ := sample_real j
  obtain ⟨b, hb⟩ := sitofp_real (BitVec.ofNat 32 i)
  rw [ha, hb, ← EReal.coe_sub, absf_real]
  rw [show (1 : EReal) = ((1 : ℝ) : EReal) from rfl, Ideal.div_coe one_ne_zero, ← EReal.coe_mul, absf_real,
    ← EReal.coe_sub, show (0 : EReal) = ((0 : ℝ) : EReal) from rfl]
  exact ⟨_, le_max_left _ _, (EReal.coe_strictMono.monotone.map_max).symm⟩

/-- The sums of the triangle weights are nonnegative reals. -/
theorem total_real (j : Fin 40) : ∃ a : ℝ, 0 ≤ a ∧ total (ix2 0 j) = (a : EReal) := by
  pointwise [total]
  choose t ht0 ht using fun x => tri_real x j
  refine ⟨∑ x, t x, Finset.sum_nonneg fun x _ => ht0 x, ?_⟩
  rw [Finset.sum_congr rfl fun x _ => ht x]
  induction (Finset.univ : Finset (Fin 64)) using Finset.induction_on with
  | empty => simp
  | insert i s hi ih => rw [Finset.sum_insert hi, Finset.sum_insert hi, ih, EReal.coe_add]

/-- The weights are nonnegative reals. -/
theorem weight_real (i : Fin 64) (j : Fin 40) : ∃ a : ℝ, 0 ≤ a ∧ wmat (ix2 i j) = (a : EReal) := by
  pointwise [wmat, normed]
  obtain ⟨t, ht0, ht⟩ := total_real j
  obtain ⟨w, hw0, hw⟩ := tri_real i j
  rw [ht, hw]
  have hzero : (FloatOps.sitofp (F := Ideal) FTy.f32 0#32 : EReal) = ((0 : ℝ) : EReal) := by
    show (((0#32 : BitVec 32).toInt : ℝ) : EReal) = _
    simp
  have hone : (FloatOps.sitofp (F := Ideal) FTy.f32 1#32 : EReal) = ((1 : ℝ) : EReal) := by
    show (((1#32 : BitVec 32).toInt : ℝ) : EReal) = _
    simp
  rw [hzero, hone]
  have hden : ∃ d : ℝ, 0 < d ∧ (if (t : EReal) ≠ 0 then (t : EReal) else ((1 : ℝ) : EReal)) = (d : EReal) := by
    by_cases h : t = 0
    · exact ⟨1, one_pos, by simp [h]⟩
    · exact ⟨t, lt_of_le_of_ne ht0 (Ne.symm h), by rw [if_pos (by exact_mod_cast h)]⟩
  obtain ⟨d, hd0, hd⟩ := hden
  rw [hd, Ideal.div_coe (ne_of_gt hd0), ← EReal.coe_mul]
  unfold Scalar.select
  split
  · split
    · exact ⟨_, mul_nonneg hw0 (by positivity), rfl⟩
    · exact ⟨0, le_rfl, rfl⟩
  · exact ⟨0, le_rfl, rfl⟩

/-- The weights as reals. -/
def weight (i : Fin 64) (j : Fin 40) : ℝ := (weight_real i j).choose

/-- The weights are nonnegative. -/
theorem weight_nonneg (i : Fin 64) (j : Fin 40) : 0 ≤ weight i j := (weight_real i j).choose_spec.1

/-- The weight matrix holds the weights. -/
theorem wmat_eq (i : Fin 64) (j : Fin 40) : wmat (ix2 i j) = (weight i j : EReal) := (weight_real i j).choose_spec.2

end Cert.RefValue

end
-- ==== Proof.KernelHost.lean ====
/- What the kernel's operand arrays hold, from its arguments. -/
module

public import proofs.«01_k».proof.Proof.Weights
public import proofs.«01_k».proof.Proof.Gen.KernelIdeal.Value
public import Idealize.ShloMosaic.Lib.Pointwise
public import Idealize.ShloMosaic.Lib.Claim

@[expose] public section

set_option maxRecDepth 16384

noncomputable section

namespace Cert.KernelIdeal.Operand

open Idealize.ShloMosaic Idealize.ShloMosaic.TcCoe Idealize.SL.Sem
open Cert.KernelIdeal Cert.KernelIdeal.Gen

variable (m : (ℓ : Loc nD τ sig) → Buf (Elt Ideal) ℓ) (c : Dev nD)

/-- The row of a flattened position. -/
def row (p : Fin 4096) : Fin 64 := ⟨p.val / 64, by omega⟩

/-- The column of a flattened position. -/
def col (p : Fin 4096) : Fin 64 := ⟨p.val % 64, by omega⟩

/-- The features argument. -/
def feats : FVec Ideal Cert.ReferenceIdeal.S8x256x64x64 .f32 := m ((c : Thread nD τ).loc main_arg0)

/-- The boxes argument. -/
def boxes : FVec Ideal Cert.ReferenceIdeal.S8x100x4 .f32 := m ((c : Thread nD τ).loc main_arg1)

/-- The classes argument. -/
def classes : IVec Cert.ReferenceIdeal.S8x100 32 := m ((c : Thread nD τ).loc main_arg2)

set_option maxHeartbeats 1000000 in
/-- The row weights at an index. -/
theorem rowWeights_at (h : Fin 40) (p : Fin 4096) :
    (V m c main_v43 : FVec Ideal S40x4096 .f32) (ix2 h p) = (Cert.RefValue.weight (row p) h : EReal) := by
  rw [← Cert.RefValue.wmat_eq]
  simp only [V, hostOps0, hostOps0_1, hostOps0_2, hostOps0_3, hostOps0_4, hostOps0_5, hostOps0_6, List.flatten_cons, List.flatten_nil, List.cons_append, List.nil_append, List.append_nil]
  entry_read
  pointwise
  rfl

set_option maxHeartbeats 1000000 in
/-- The column weights at an index. -/
theorem colWeights_at (w : Fin 40) (p : Fin 4096) :
    (V m c main_v46 : FVec Ideal S40x4096 .f32) (ix2 w p) = (Cert.RefValue.weight (col p) w : EReal) := by
  rw [← Cert.RefValue.wmat_eq]
  simp only [V, hostOps0, hostOps0_1, hostOps0_2, hostOps0_3, hostOps0_4, hostOps0_5, hostOps0_6, List.flatten_cons, List.flatten_nil, List.cons_append, List.nil_append, List.append_nil]
  entry_read
  pointwise
  rfl

/-- The flattened features at an index. -/
theorem features_at (b : Fin 8) (d : Fin 256) (p : Fin 4096) :
    (V m c main_v47 : FVec Ideal S8x256x4096 .f32) (ix3 b d p) = feats m c (ix4 b d (row p) (col p)) := by
  simp only [V, hostOps0, hostOps0_1, hostOps0_2, hostOps0_3, hostOps0_4, hostOps0_5, hostOps0_6, List.flatten_cons, List.flatten_nil, List.cons_append, List.nil_append, List.append_nil]
  entry_read
  pointwise
  rfl

/-- The classes with a unit axis at an index. -/
theorem classes_at (b : Fin 8) (n : Fin 100) :
    (V m c main_v48 : IVec S8x1x100 32) (ix3 b 0 n) = classes m c (ix2 b n) := by
  simp only [V, hostOps0, hostOps0_1, hostOps0_2, hostOps0_3, hostOps0_4, hostOps0_5, hostOps0_6, List.flatten_cons, List.flatten_nil, List.cons_append, List.nil_append, List.append_nil]
  entry_read
  pointwise
  rfl

/-- The boxes are the argument's. -/
theorem boxes_at (b : Fin 8) (n : Fin 100) (j : Fin 4) :
    (V m c main_arg1 : FVec Ideal S8x100x4 .f32) (ix3 b n j) = boxes m c (ix3 b n j) := by
  rw [V_main_arg1]
  rfl

end Cert.KernelIdeal.Operand

end
-- ==== Proof.Algebra.lean ====
/- Sums of extended reals with nonnegative real coefficients, and the two equations the certificate rests on:
   one region's pooled feature, and the mean over the regions of one class. -/
module

public import Idealize.ShloMosaic.PureOps.Ideal
public import Idealize.ShloMosaic.Lib.IdealHost

@[expose] public section

noncomputable section

namespace Cert.Pool

open Idealize.ShloMosaic
open scoped BigOperators

/-- A finite sum of reals, read as an extended real, is the sum of the terms read so. -/
theorem coe_sum {ι : Type*} (s : Finset ι) (a : ι → ℝ) : ((∑ i ∈ s, a i : ℝ) : EReal) = ∑ i ∈ s, (a i : EReal) := by
  classical
  induction s using Finset.induction_on with
  | empty => simp
  | insert i s hi ih => rw [Finset.sum_insert hi, Finset.sum_insert hi, EReal.coe_add, ih]

/-- A nonnegative real multiplies a sum of extended reals term by term. -/
theorem coe_mul_sum {ι : Type*} (s : Finset ι) {a : ℝ} (ha : 0 ≤ a) (x : ι → EReal) :
    (a : EReal) * ∑ i ∈ s, x i = ∑ i ∈ s, (a : EReal) * x i := by
  classical
  induction s using Finset.induction_on with
  | empty => simp
  | insert i s hi ih =>
    rw [Finset.sum_insert hi, Finset.sum_insert hi, ← ih]
    exact EReal.left_distrib_of_nonneg_of_ne_top (by exact_mod_cast ha) (EReal.coe_ne_top a) _ _

/-- A sum of nonnegative reals multiplies an extended real term by term. -/
theorem sum_coe_mul {ι : Type*} (s : Finset ι) {a : ι → ℝ} (ha : ∀ i, 0 ≤ a i) (x : EReal) :
    ((∑ i ∈ s, a i : ℝ) : EReal) * x = ∑ i ∈ s, (a i : EReal) * x := by
  classical
  induction s using Finset.induction_on with
  | empty => simp
  | insert i s hi ih =>
    rw [Finset.sum_insert hi, Finset.sum_insert hi, ← ih, EReal.coe_add]
    exact EReal.right_distrib_of_nonneg (by exact_mod_cast ha i) (by exact_mod_cast Finset.sum_nonneg fun j _ => ha j)

/-- The larger of a real and one, read as an extended real. -/
theorem coe_max_one (a : ℝ) : max (a : EReal) 1 = ((max a 1 : ℝ) : EReal) := by
  rw [show (1 : EReal) = ((1 : ℝ) : EReal) from rfl]
  exact (EReal.coe_strictMono.monotone.map_max).symm

/-- Division by the larger of a real and one is the product with its real reciprocal. -/
theorem div_max_one (x : EReal) (a : ℝ) : Ideal.div x (max (a : EReal) 1) = x * ((1 / max a 1 : ℝ) : EReal) := by
  rw [coe_max_one]
  exact Ideal.div_coe (ne_of_gt (lt_of_lt_of_le one_pos (le_max_right a 1))) x

section Region

variable (W : Fin 64 → Fin 40 → ℝ) (my mx : Fin 40 → ℝ) (v : ℝ) (f : Fin 64 → Fin 64 → EReal)

/-- The resized feature at row `h` and column `w`, a sum over the 64 × 64 positions with real coefficients. -/
theorem resized_eq (hW : ∀ y h, 0 ≤ W y h) (h w : Fin 40) :
    ∑ x, (∑ y, (W y h : EReal) * f y x) * (W x w : EReal)
      = ∑ x, ∑ y, ((W x w * W y h : ℝ) : EReal) * f y x := by
  refine Finset.sum_congr rfl fun x _ => ?_
  rw [mul_comm, coe_mul_sum _ (hW x w)]
  refine Finset.sum_congr rfl fun y _ => ?_
  rw [EReal.coe_mul, mul_assoc]

/-- The masked sum of the resized features, with the sums over the mask taken inside. -/
theorem masked_eq (hW : ∀ y h, 0 ≤ W y h) (hmy : ∀ h, 0 ≤ my h) (hmx : ∀ w, 0 ≤ mx w) (hv : 0 ≤ v) :
    ∑ h, ∑ w, ((my h * mx w * v : ℝ) : EReal) * (∑ x, (∑ y, (W y h : EReal) * f y x) * (W x w : EReal))
      = ∑ y, ∑ x, ((∑ h, ∑ w, my h * mx w * v * (W x w * W y h) : ℝ) : EReal) * f y x := by
  have hm : ∀ h w, 0 ≤ my h * mx w * v := fun h w => mul_nonneg (mul_nonneg (hmy h) (hmx w)) hv
  have hk : ∀ h w x y, 0 ≤ my h * mx w * v * (W x w * W y h) := fun h w x y =>
    mul_nonneg (hm h w) (mul_nonneg (hW x w) (hW y h))
  have e1 : ∀ h w, ((my h * mx w * v : ℝ) : EReal) * (∑ x, (∑ y, (W y h : EReal) * f y x) * (W x w : EReal))
      = ∑ y, ∑ x, ((my h * mx w * v * (W x w * W y h) : ℝ) : EReal) * f y x := by
    intro h w
    rw [resized_eq W f hW h w, coe_mul_sum _ (hm h w), Finset.sum_comm]
    refine Finset.sum_congr rfl fun x _ => ?_
    rw [coe_mul_sum _ (hm h w)]
    refine Finset.sum_congr rfl fun y _ => ?_
    rw [EReal.coe_mul (my h * mx w * v) (W x w * W y h)]
    exact (mul_assoc _ _ _).symm
  simp only [e1]
  have e2 : ∀ y x, ((∑ h, ∑ w, my h * mx w * v * (W x w * W y h) : ℝ) : EReal) * f y x
      = ∑ h, ∑ w, ((my h * mx w * v * (W x w * W y h) : ℝ) : EReal) * f y x := by
    intro y x
    rw [sum_coe_mul _ fun h => Finset.sum_nonneg fun w _ => hk h w x y]
    exact Finset.sum_congr rfl fun h _ => sum_coe_mul _ (fun w => hk h w x y) _
  simp only [e2]
  calc ∑ h, ∑ w, ∑ y, ∑ x, ((my h * mx w * v * (W x w * W y h) : ℝ) : EReal) * f y x
      = ∑ h, ∑ y, ∑ w, ∑ x, ((my h * mx w * v * (W x w * W y h) : ℝ) : EReal) * f y x :=
        Finset.sum_congr rfl fun h _ => Finset.sum_comm
    _ = ∑ y, ∑ h, ∑ w, ∑ x, ((my h * mx w * v * (W x w * W y h) : ℝ) : EReal) * f y x := Finset.sum_comm
    _ = ∑ y, ∑ h, ∑ x, ∑ w, ((my h * mx w * v * (W x w * W y h) : ℝ) : EReal) * f y x :=
        Finset.sum_congr rfl fun y _ => Finset.sum_congr rfl fun h _ => Finset.sum_comm
    _ = ∑ y, ∑ x, ∑ h, ∑ w, ((my h * mx w * v * (W x w * W y h) : ℝ) : EReal) * f y x :=
        Finset.sum_congr rfl fun y _ => Finset.sum_comm

/-- The coefficient of one position: the masked mean of the weights is the product of the two weighted masks. -/
theorem coeff_eq (hv : v = 0 ∨ v = 1) (y x : Fin 64) :
    (∑ h, ∑ w, my h * mx w * v * (W x w * W y h)) * (1 / max (∑ h, ∑ w, my h * mx w * v) 1) * v
      = (∑ h, my h * W y h) * (∑ w, mx w * W x w) * (v * (1 / max ((∑ h, my h) * ∑ w, mx w) 1)) := by
  rcases hv with rfl | rfl
  · simp
  · have a : ∑ h, ∑ w, my h * mx w * 1 = (∑ h, my h) * ∑ w, mx w := by
      rw [Finset.sum_mul_sum]; simp
    have b : ∑ h, ∑ w, my h * mx w * 1 * (W x w * W y h) = (∑ h, my h * W y h) * ∑ w, mx w * W x w := by
      rw [Finset.sum_mul_sum]
      refine Finset.sum_congr rfl fun h _ => Finset.sum_congr rfl fun w _ => ?_
      ring
    rw [a, b]; ring

/-- ONE REGION'S POOLED FEATURE: the masked mean of the resized features, zero for an empty region, is one weighted
    sum of the features, the weight of a position the product of its two weighted masks over the region's area. -/
theorem pool_eq (hW : ∀ y h, 0 ≤ W y h) (hmy : ∀ h, 0 ≤ my h) (hmx : ∀ w, 0 ≤ mx w) (hv : v = 0 ∨ v = 1) :
    Ideal.div (∑ h, ∑ w, ((my h * mx w * v : ℝ) : EReal)
          * (∑ x, (∑ y, (W y h : EReal) * f y x) * (W x w : EReal)))
        (max (∑ h, ∑ w, ((my h * mx w * v : ℝ) : EReal)) 1) * (v : EReal)
      = ∑ y, ∑ x, ((∑ h, (my h : EReal) * (W y h : EReal)) * (∑ w, (mx w : EReal) * (W x w : EReal))
          * Ideal.div (v : EReal) (max ((∑ h, (my h : EReal)) * ∑ w, (mx w : EReal)) 1)) * f y x := by
  have hv0 : 0 ≤ v := by rcases hv with rfl | rfl <;> norm_num
  rw [masked_eq W my mx v f hW hmy hmx hv0]
  simp only [← EReal.coe_mul, ← coe_sum, div_max_one]
  have hA : 0 ≤ 1 / max (∑ h, ∑ w, my h * mx w * v) 1 :=
    div_nonneg one_pos.le (le_trans one_pos.le (le_max_right _ _))
  rw [mul_assoc, ← EReal.coe_mul, mul_comm, coe_mul_sum _ (mul_nonneg hA hv0)]
  refine Finset.sum_congr rfl fun y _ => ?_
  rw [coe_mul_sum _ (mul_nonneg hA hv0)]
  refine Finset.sum_congr rfl fun x _ => ?_
  rw [← mul_assoc, ← EReal.coe_mul, ← coeff_eq W my mx v hv y x]
  congr 2
  ring

end Region

/-- THE MEAN OVER ONE CLASS: the sum over the class's regions divided by their number (at least one) is the product of
    the sum with the membership indicator and the reciprocal of the counted number. -/
theorem mean_eq (hit : Fin 100 → Prop) [DecidablePred hit] (p : Fin 100 → EReal) (v : Fin 100 → ℝ) :
    Ideal.div (0 + ∑ n, if hit n then p n else 0) (max (0 + ∑ n, if hit n then (v n : EReal) else 0) 1)
      = (∑ n, ((if hit n then 1 else 0 : ℝ) : EReal) * p n)
          * Ideal.div 1 (max (∑ n, ((if hit n then 1 else 0 : ℝ) : EReal) * (v n : EReal)) 1) := by
  have e : ∀ (x : Fin 100 → EReal) (n : Fin 100),
      (if hit n then x n else 0) = ((if hit n then 1 else 0 : ℝ) : EReal) * x n := by
    intro x n; split <;> simp
  simp only [zero_add, e p, e fun n => (v n : EReal)]
  simp only [← EReal.coe_mul, ← coe_sum, div_max_one, one_mul]

end Cert.Pool

end
-- ==== Proof.Scatter.lean ====
/- Where the reference's two scatters add: the boxes of an image that have a given class. -/
module

public import proofs.«01_k».proof.Proof.RefDefs
public import Idealize.ShloMosaic.Lib.Pointwise
public import Idealize.ShloMosaic.Lib.Claim
public import Idealize.ShloMosaic.Lib.Routing.OpsPair

@[expose] public section

set_option maxRecDepth 16384

noncomputable section

namespace Cert.RefValue

open Idealize.ShloMosaic Idealize.SL.Sem
open Cert.ReferenceIdeal Cert.ReferenceIdeal.Gen

/-- The first component of a box's index pair is its image. -/
theorem target_image (k : IVec S8x100 32) (b : Fin 8) (n : Fin 100) : (target k (ix3 b n 0)).toInt = (b.val : Int) := by
  have h : target k (ix3 b n 0) = BitVec.ofNat 32 b := by
    pointwise [target]
  rw [h, BitVec.toInt_ofNat']
  apply Int.bmod_eq_of_le <;> omega

/-- The second component of a box's index pair is its class. -/
theorem target_class (k : IVec S8x100 32) (b : Fin 8) (n : Fin 100) : target k (ix3 b n 1) = k (ix2 b n) := by
  pointwise [target]

/-- A feature of a box is added at its image, its class and its channel. -/
theorem sums_target (k : IVec S8x100 32) (b' : Fin 8) (n : Fin 100) (c' : Fin 256) (b : Fin 8) (q : Fin 599) (c : Fin 256) :
    scatter_S8x599x256_S8x100x2_S8x100x256_2_01_01_2.resultIdx? (ix3 b' n c') (target k) = some (ix3 b q c)
      ↔ b' = b ∧ (k (ix2 b n)).toInt = (q.val : Int) ∧ c' = c := by
  rw [Idealize.ShloMosaic.Routing.resultIdx?_eq_some]
  have e0 : scatter_S8x599x256_S8x100x2_S8x100x256_2_01_01_2.start (ix3 b' n c') (target k) 0 = (target k (ix3 b' n 0)).toInt :=
    congrArg (fun i => (target k i).toInt) (show scatter_S8x599x256_S8x100x2_S8x100x256_2_01_01_2.siIdx (ix3 b' n c') ⟨0, by decide⟩ = ix3 b' n 0 from
      funext fun a => match a with
        | ⟨0, _⟩ => rfl
        | ⟨1, _⟩ => rfl
        | ⟨2, _⟩ => rfl)
  have e1 : scatter_S8x599x256_S8x100x2_S8x100x256_2_01_01_2.start (ix3 b' n c') (target k) 1 = (target k (ix3 b' n 1)).toInt :=
    congrArg (fun i => (target k i).toInt) (show scatter_S8x599x256_S8x100x2_S8x100x256_2_01_01_2.siIdx (ix3 b' n c') ⟨1, by decide⟩ = ix3 b' n 1 from
      funext fun a => match a with
        | ⟨0, _⟩ => rfl
        | ⟨1, _⟩ => rfl
        | ⟨2, _⟩ => rfl)
  have e2 : scatter_S8x599x256_S8x100x2_S8x100x256_2_01_01_2.start (ix3 b' n c') (target k) 2 = 0 := rfl
  have w0 : scatter_S8x599x256_S8x100x2_S8x100x256_2_01_01_2.window (ix3 b' n c') 0 = 0 := rfl
  have w1 : scatter_S8x599x256_S8x100x2_S8x100x256_2_01_01_2.window (ix3 b' n c') 1 = 0 := rfl
  have w2 : scatter_S8x599x256_S8x100x2_S8x100x256_2_01_01_2.window (ix3 b' n c') 2 = c'.val := rfl
  rw [target_image] at e0
  rw [target_class] at e1
  constructor
  · intro h
    have h0 := h 0
    have h1 := h 1
    have h2 := h 2
    rw [e0, w0] at h0
    rw [e1, w1] at h1
    rw [e2, w2] at h2
    change (b'.val : Int) + (0 : Nat) = (b.val : Int) at h0
    change (k (ix2 b' n)).toInt + (0 : Nat) = (q.val : Int) at h1
    change 0 + (c'.val : Int) = (c.val : Int) at h2
    have hb : b' = b := Fin.ext (by omega)
    subst hb
    exact ⟨rfl, by omega, Fin.ext (by omega)⟩
  · rintro ⟨rfl, h1, rfl⟩ a
    match a with
    | ⟨0, _⟩ => exact (congrArg₂ (fun (x : Int) (y : Nat) => x + (y : Int)) e0 w0).trans (add_zero _)
    | ⟨1, _⟩ => exact (congrArg₂ (fun (x : Int) (y : Nat) => x + (y : Int)) e1 w1).trans ((add_zero _).trans h1)
    | ⟨2, _⟩ => exact (congrArg₂ (fun (x : Int) (y : Nat) => x + (y : Int)) e2 w2).trans (zero_add _)

/-- The validity of a box is added at its image and its class. -/
theorem counts_target (k : IVec S8x100 32) (b' : Fin 8) (n : Fin 100) (b : Fin 8) (q : Fin 599) :
    scatter_S8x599_S8x100x2_S8x100_n_01_01_2.resultIdx? (ix2 b' n) (target k) = some (ix2 b q)
      ↔ b' = b ∧ (k (ix2 b n)).toInt = (q.val : Int) := by
  rw [Idealize.ShloMosaic.Routing.resultIdx?_eq_some]
  have e0 : scatter_S8x599_S8x100x2_S8x100_n_01_01_2.start (ix2 b' n) (target k) 0 = (target k (ix3 b' n 0)).toInt :=
    congrArg (fun i => (target k i).toInt) (show scatter_S8x599_S8x100x2_S8x100_n_01_01_2.siIdx (ix2 b' n) ⟨0, by decide⟩ = ix3 b' n 0 from
      funext fun a => match a with
        | ⟨0, _⟩ => rfl
        | ⟨1, _⟩ => rfl
        | ⟨2, _⟩ => rfl)
  have e1 : scatter_S8x599_S8x100x2_S8x100_n_01_01_2.start (ix2 b' n) (target k) 1 = (target k (ix3 b' n 1)).toInt :=
    congrArg (fun i => (target k i).toInt) (show scatter_S8x599_S8x100x2_S8x100_n_01_01_2.siIdx (ix2 b' n) ⟨1, by decide⟩ = ix3 b' n 1 from
      funext fun a => match a with
        | ⟨0, _⟩ => rfl
        | ⟨1, _⟩ => rfl
        | ⟨2, _⟩ => rfl)
  have w0 : scatter_S8x599_S8x100x2_S8x100_n_01_01_2.window (ix2 b' n) 0 = 0 := rfl
  have w1 : scatter_S8x599_S8x100x2_S8x100_n_01_01_2.window (ix2 b' n) 1 = 0 := rfl
  rw [target_image] at e0
  rw [target_class] at e1
  constructor
  · intro h
    have h0 := h 0
    have h1 := h 1
    rw [e0, w0] at h0
    rw [e1, w1] at h1
    change (b'.val : Int) + (0 : Nat) = (b.val : Int) at h0
    change (k (ix2 b' n)).toInt + (0 : Nat) = (q.val : Int) at h1
    have hb : b' = b := Fin.ext (by omega)
    subst hb
    exact ⟨rfl, by omega⟩
  · rintro ⟨rfl, h1⟩ a
    match a with
    | ⟨0, _⟩ => exact (congrArg₂ (fun (x : Int) (y : Nat) => x + (y : Int)) e0 w0).trans (add_zero _)
    | ⟨1, _⟩ => exact (congrArg₂ (fun (x : Int) (y : Nat) => x + (y : Int)) e1 w1).trans ((add_zero _).trans h1)

/-- The update elements added at `(b, q, c)` sum to those of image `b`, class `q`, channel `c`. -/
theorem sums_filter (k : IVec S8x100 32) (u : S8x100x256.Idx → EReal) (b : Fin 8) (q : Fin 599) (c : Fin 256) :
    ∑ j ∈ Finset.univ.filter (fun j => scatter_S8x599x256_S8x100x2_S8x100x256_2_01_01_2.resultIdx? j (target k) = some (ix3 b q c)), u j
      = ∑ n : Fin 100, if (k (ix2 b n)).toInt = (q.val : Int) then u (ix3 b n c) else 0 := by
  rw [← Finset.sum_filter]
  symm
  refine Finset.sum_nbij (fun n => ix3 b n c) ?_ ?_ ?_ ?_
  · intro n hn
    rw [Finset.mem_filter] at hn ⊢
    exact ⟨Finset.mem_univ _, (sums_target k b n c b q c).2 ⟨rfl, hn.2, rfl⟩⟩
  · intro n _ n' _ e
    exact congrFun e 1
  · intro j hj
    have hj' := (Finset.mem_filter.1 (Finset.mem_coe.1 hj)).2
    rw [eq_ix3 j] at hj'
    obtain ⟨hb, hk, hc⟩ := (sums_target k _ _ _ b q c).1 hj'
    refine ⟨j 1, Finset.mem_coe.2 (Finset.mem_filter.2 ⟨Finset.mem_univ _, hk⟩), ?_⟩
    rw [eq_ix3 j, ← hb, ← hc]
    rfl
  · intro n _; rfl

/-- The update elements added at `(b, q)` sum to those of image `b` and class `q`. -/
theorem counts_filter (k : IVec S8x100 32) (u : S8x100.Idx → EReal) (b : Fin 8) (q : Fin 599) :
    ∑ j ∈ Finset.univ.filter (fun j => scatter_S8x599_S8x100x2_S8x100_n_01_01_2.resultIdx? j (target k) = some (ix2 b q)), u j
      = ∑ n : Fin 100, if (k (ix2 b n)).toInt = (q.val : Int) then u (ix2 b n) else 0 := by
  rw [← Finset.sum_filter]
  symm
  refine Finset.sum_nbij (fun n => ix2 b n) ?_ ?_ ?_ ?_
  · intro n hn
    rw [Finset.mem_filter] at hn ⊢
    exact ⟨Finset.mem_univ _, (counts_target k b n b q).2 ⟨rfl, hn.2⟩⟩
  · intro n _ n' _ e
    exact congrFun e 1
  · intro j hj
    have hj' := (Finset.mem_filter.1 (Finset.mem_coe.1 hj)).2
    rw [eq_ix2 j] at hj'
    obtain ⟨hb, hk⟩ := (counts_target k _ _ b q).1 hj'
    refine ⟨j 1, Finset.mem_coe.2 (Finset.mem_filter.2 ⟨Finset.mem_univ _, hk⟩), ?_⟩
    rw [eq_ix2 j, ← hb]
    rfl
  · intro n _; rfl

/-- The sums at an index: the pooled features of the boxes of that image and class. -/
theorem sums_at (f : FVec Ideal S8x256x64x64 .f32) (x : FVec Ideal S8x100x4 .f32) (k : IVec S8x100 32) (b : Fin 8) (q : Fin 599) (c : Fin 256) :
    sums f x k (ix3 b q c) = 0 + ∑ n : Fin 100, if (k (ix2 b n)).toInt = (q.val : Int) then pooled f x (ix3 b n c) else 0 := by
  rw [← sums_filter k (pooled f x) b q c]
  have h : (broadcastInDim S8x599x256 ![] bcast_S_S8x599x256 (constant (F := Ideal) S_ .f32 0x00000000#32) (ix3 b q c) : EReal) = 0 := by
    pointwise
  exact congrArg (· + _) h

/-- The counts at an index: the validities of the boxes of that image and class. -/
theorem counts_at (x : FVec Ideal S8x100x4 .f32) (k : IVec S8x100 32) (b : Fin 8) (q : Fin 599) :
    counts x k (ix2 b q) = 0 + ∑ n : Fin 100, if (k (ix2 b n)).toInt = (q.val : Int) then validf x (ix2 b n) else 0 := by
  rw [← counts_filter k (validf x) b q]
  have h : (broadcastInDim S8x599 ![] bcast_S_S8x599 (constant (F := Ideal) S_ .f32 0x00000000#32) (ix2 b q) : EReal) = 0 := by
    pointwise
  exact congrArg (· + _) h

end Cert.RefValue

end
-- ==== Proof.RefAt.lean ====
/- The reference's result at an index, with the sums over the resized grid carried out last. -/
module

public import proofs.«01_k».proof.Proof.Algebra
public import proofs.«01_k».proof.Proof.Bits
public import proofs.«01_k».proof.Proof.Weights
public import proofs.«01_k».proof.Proof.Scatter

@[expose] public section

set_option maxRecDepth 16384

noncomputable section

namespace Cert.RefValue

open Idealize.ShloMosaic Idealize.SL.Sem
open Cert.ReferenceIdeal Cert.ReferenceIdeal.Gen Cert.Pool
open Classical

variable (f : FVec Ideal S8x256x64x64 .f32) (x : FVec Ideal S8x100x4 .f32) (k : IVec S8x100 32)

/-- Which rows of the grid lie in box `n` of image `b`. -/
def rowIn (b : Fin 8) (n : Fin 100) (h : Fin 40) : ℝ := side (x (ix3 b n 1)) (x (ix3 b n 3)) h

/-- Which columns of the grid lie in box `n` of image `b`. -/
def colIn (b : Fin 8) (n : Fin 100) (w : Fin 40) : ℝ := side (x (ix3 b n 0)) (x (ix3 b n 2)) w

/-- Whether box `n` of image `b` is not empty. -/
def isFull (b : Fin 8) (n : Fin 100) : ℝ := full (x (ix3 b n 0)) (x (ix3 b n 1)) (x (ix3 b n 2)) (x (ix3 b n 3))

/-- The coefficient of the feature at row `y` and column `z` in the pooled feature of box `n` of image `b`. -/
def pixel (b : Fin 8) (n : Fin 100) (y z : Fin 64) : EReal :=
  (∑ h, (rowIn x b n h : EReal) * (weight y h : EReal)) * (∑ w, (colIn x b n w : EReal) * (weight z w : EReal))
    * Ideal.div (isFull x b n : EReal) (max ((∑ h, (rowIn x b n h : EReal)) * ∑ w, (colIn x b n w : EReal)) 1)

/-- Whether box `n` of image `b` has class `q`. -/
def hit (b : Fin 8) (n : Fin 100) (q : Fin 599) : ℝ := ind ((k (ix2 b n)).toInt = (q.val : Int))

/-- The result at image `b`, class `q` and channel `c`: the class's boxes, each a sum over the 64 × 64 positions. -/
def spec (b : Fin 8) (q : Fin 599) (c : Fin 256) : EReal :=
  (∑ n, (hit k b n q : EReal) * ∑ y, ∑ z, pixel x b n y z * f (ix4 b c y z))
    * Ideal.div 1 (max (∑ n, (hit k b n q : EReal) * (isFull x b n : EReal)) 1)

/-- The axes of a box's area in ascending order. -/
theorem area_axes : Shape.ReducesTo S8x100x40x40 [2, 3] S8x100 := by decide

/-- A box's area is the sum of its mask, at least one. -/
theorem area_at (b : Fin 8) (n : Fin 100) : area x (ix2 b n) = max (∑ h, ∑ w, mask x (ix4 b n h w)) 1 := by
  pointwise [area]
  have e : Ideal.hostReduceAdd reducesTo_S8x100x40x40_S8x100_d3_2 (mask x) 0 (ix2 b n) = Ideal.hostReduceAdd area_axes (mask x) 0 (ix2 b n) := rfl
  rw [e]
  pointwise

/-- The left edge at an index. -/
theorem left_at (b : Fin 8) (n : Fin 100) : left x (ix2 b n) = lo (x (ix3 b n 0)) := by
  pointwise [left, grid, lo]

/-- The top edge at an index. -/
theorem top_at (b : Fin 8) (n : Fin 100) : top x (ix2 b n) = lo (x (ix3 b n 1)) := by
  pointwise [top, grid, lo]

/-- The right edge at an index. -/
theorem right_at (b : Fin 8) (n : Fin 100) : right x (ix2 b n) = hi (x (ix3 b n 2)) := by
  pointwise [right, grid, hi]

/-- The bottom edge at an index. -/
theorem bottom_at (b : Fin 8) (n : Fin 100) : bottom x (ix2 b n) = hi (x (ix3 b n 3)) := by
  pointwise [bottom, grid, hi]

/-- The validity of a box at an index. -/
theorem validf_at (b : Fin 8) (n : Fin 100) : validf x (ix2 b n) = (isFull x b n : EReal) := by
  pointwise [validf, valid]
  rw [uitofp_bit, left_at, top_at, right_at, bottom_at]
  refine congrArg (fun r : ℝ => (r : EReal)) (ind_congr ?_)
  rw [andi_eq_one, ofBool_eq_one, ofBool_eq_one]

/-- The mask at an index. -/
theorem mask_at (b : Fin 8) (n : Fin 100) (h w : Fin 40) :
    mask x (ix4 b n h w) = ((rowIn x b n h * colIn x b n w * isFull x b n : ℝ) : EReal) := by
  pointwise [mask, between, valid]
  rw [uitofp_bit, uitofp_bit, left_at, top_at, right_at, bottom_at, EReal.coe_mul]
  refine congrArg₂ (· * ·) (congrArg (fun r : ℝ => (r : EReal)) ?_) (congrArg (fun r : ℝ => (r : EReal)) (ind_congr ?_))
  · unfold rowIn colIn side
    rw [← ind_and]
    refine ind_congr ?_
    simp only [andi_eq_one, ofBool_eq_one]
    exact Iff.rfl
  · rw [andi_eq_one, ofBool_eq_one, ofBool_eq_one]

/-- The pooled feature at an index, a sum over the 64 × 64 positions. -/
theorem pooled_at (b : Fin 8) (n : Fin 100) (c : Fin 256) :
    pooled f x (ix3 b n c) = ∑ y, ∑ z, pixel x b n y z * f (ix4 b c y z) := by
  have h : pooled f x (ix3 b n c)
      = Ideal.div (∑ h, ∑ w, mask x (ix4 b n h w) * resized f (ix4 b c h w)) (area x (ix2 b n)) * validf x (ix2 b n) := by
    pointwise [pooled]
  have r : ∀ h w, resized f (ix4 b c h w) = ∑ z, (∑ y, wmat (ix2 y h) * f (ix4 b c y z)) * wmat (ix2 z w) := by
    intro h w
    pointwise [resized]
  rw [h, area_at, validf_at]
  simp only [r, mask_at, wmat_eq]
  exact pool_eq weight (rowIn x b n) (colIn x b n) (isFull x b n) (fun y z => f (ix4 b c y z))
    weight_nonneg (fun _ => ind_nonneg _) (fun _ => ind_nonneg _) (ind_cases _)

/-- The reference's result at an index. -/
theorem result_at (b : Fin 8) (q : Fin 599) (c : Fin 256) : result f x k (ix3 b q c) = spec f x k b q c := by
  have h : result f x k (ix3 b q c) = Ideal.div (sums f x k (ix3 b q c)) (max (counts x k (ix2 b q)) 1) := by
    pointwise [result]
  rw [h, sums_at, counts_at]
  simp only [validf_at, pooled_at]
  refine (mean_eq (fun n => (k (ix2 b n)).toInt = (q.val : Int)) (fun n => ∑ y, ∑ z, pixel x b n y z * f (ix4 b c y z)) (isFull x b)).trans ?_
  have e : ∀ n, (if (k (ix2 b n)).toInt = (q.val : Int) then 1 else 0 : ℝ) = hit k b n q := by
    intro n
    unfold hit ind
    congr
  simp only [e]
  rfl

end Cert.RefValue

end
-- ==== Proof.KernelArray.lean ====
/- What the kernel's output array holds after the last point: the reference's result at every index. -/
module

public import proofs.«01_k».proof.Proof.KernelBlock
public import proofs.«01_k».proof.Proof.KernelHost
public import proofs.«01_k».proof.Proof.RefAt
public import Idealize.ShloMosaic.Lib.Pipeline.ValueKit
public import Idealize.ShloMosaic.Lib.Pipeline.ReadBack

@[expose] public section

set_option maxRecDepth 16384

noncomputable section

namespace Cert.KernelIdeal.Array

open Idealize.ShloMosaic Idealize.ShloMosaic.TcCoe Idealize.SL.Sem
open Cert.KernelIdeal Cert.KernelIdeal.Gen Cert.KernelIdeal.Block Cert.KernelIdeal.Operand Cert.Pool

variable (m : (ℓ : Loc nD τ sig) → Buf (Elt Ideal) ℓ) (c : Dev nD)

/-- The blocks each point reads and writes. -/
theorem idx : ∀ t : Fin cfg0.N, win0_0.index t = ![t.val / 2, t.val % 2, 0] ∧ win0_1.index t = ![t.val / 2, 0, 0]
    ∧ win0_2.index t = ![t.val / 2, 0, 0] ∧ win0_3.index t = ![0, 0] ∧ win0_4.index t = ![0, 0]
    ∧ win0_5.index t = ![t.val / 2, 0, t.val % 2] :=
  (by decide +kernel : ∀ t : Fin grid0.N, _)

/-- The image of a point. -/
def img (t : Fin cfg0.N) : Fin 8 := ⟨t.val / 2, by have := t.isLt; change t.val < 16 at this; omega⟩

/-- The channel of a point's block. -/
def chan (t : Fin cfg0.N) (j : Fin 128) : Fin 256 := ⟨t.val % 2 * 128 + j.val, by omega⟩

/-- The features block of a point. -/
theorem featBlock (t : Fin cfg0.N) (j : Fin 128) (p : Fin 4096) :
    (iblk m c 0 t : FVec Ideal S1x128x4096 .f32) (ix3 0 j p) = feats m c (ix4 (img t) (chan t j) (row p) (col p)) := by
  rw [← features_at]
  blk_point [iblk, V, idx t]
  all_goals rfl

/-- The boxes block of a point. -/
theorem boxBlock (t : Fin cfg0.N) (n : Fin 100) (j : Fin 4) :
    (iblk m c 1 t : FVec Ideal S1x100x4 .f32) (ix3 0 n j) = boxes m c (ix3 (img t) n j) := by
  rw [← boxes_at]
  blk_point [iblk, V, idx t]
  all_goals rfl

/-- The classes block of a point. -/
theorem classBlock (t : Fin cfg0.N) (n : Fin 100) :
    (iblk m c 2 t : IVec S1x1x100 32) (ix3 0 0 n) = classes m c (ix2 (img t) n) := by
  rw [← classes_at]
  blk_point [iblk, V, idx t]
  all_goals rfl

/-- The row weights block of a point. -/
theorem rowBlock (t : Fin cfg0.N) (h : Fin 40) (p : Fin 4096) :
    (iblk m c 3 t : FVec Ideal S40x4096 .f32) (ix2 h p) = (Cert.RefValue.weight (row p) h : EReal) := by
  rw [← rowWeights_at m c]
  blk_point [iblk, V, idx t]

/-- The column weights block of a point. -/
theorem colBlock (t : Fin cfg0.N) (w : Fin 40) (p : Fin 4096) :
    (iblk m c 4 t : FVec Ideal S40x4096 .f32) (ix2 w p) = (Cert.RefValue.weight (col p) w : EReal) := by
  rw [← colWeights_at m c]
  blk_point [iblk, V, idx t]

/-- A sum over the flattened positions is the sum over rows and columns. -/
theorem sum_positions (g : Fin 64 → Fin 64 → EReal) : ∑ p : Fin 4096, g (row p) (col p) = ∑ y, ∑ z, g y z := by
  rw [← Fintype.sum_prod_type']
  exact Fintype.sum_equiv (finProdFinEquiv (m := 64) (n := 64)).symm (fun p => g (row p) (col p)) (fun yz => g yz.1 yz.2) fun p => rfl

/-- The indicators of a point's boxes are those of its image. -/
theorem rows_eq (t : Fin cfg0.N) (n : Fin 100) (h : Fin 40) :
    rows (iblk m c 1 t) n h = Cert.RefValue.rowIn (boxes m c) (img t) n h := by
  unfold rows Cert.RefValue.rowIn
  rw [boxBlock, boxBlock]

/-- The indicators of a point's boxes are those of its image. -/
theorem cols_eq (t : Fin cfg0.N) (n : Fin 100) (w : Fin 40) :
    cols (iblk m c 1 t) n w = Cert.RefValue.colIn (boxes m c) (img t) n w := by
  unfold cols Cert.RefValue.colIn
  rw [boxBlock, boxBlock]

/-- The validities of a point's boxes are those of its image. -/
theorem valid_eq (t : Fin cfg0.N) (n : Fin 100) :
    valid (iblk m c 1 t) n = Cert.RefValue.isFull (boxes m c) (img t) n := by
  unfold valid Cert.RefValue.isFull
  rw [boxBlock, boxBlock, boxBlock, boxBlock]

/-- The box weights a point computes, from its image. -/
theorem boxWeights_eq (t : Fin cfg0.N) (n : Fin 100) (p : Fin 4096) :
    boxWeights (iblk m c 1 t) (iblk m c 3 t) (iblk m c 4 t) (ix2 n p) = Cert.RefValue.pixel (boxes m c) (img t) n (row p) (col p) := by
  rw [boxWeights_at]
  simp only [rowBlock, colBlock, rows_eq, cols_eq, valid_eq]
  rfl

/-- The class indicators a point computes, from its image. -/
theorem oneHot_eq (t : Fin cfg0.N) (q : Fin 599) (n : Fin 100) :
    oneHot (iblk m c 2 t) (ix2 q n) = (Cert.RefValue.hit (classes m c) (img t) n q : EReal) := by
  rw [oneHot_at, classBlock]
  rfl

/-- The reciprocals of the class counts a point computes, from its image. -/
theorem invCounts_eq (t : Fin cfg0.N) (q : Fin 599) :
    invCounts (iblk m c 1 t) (iblk m c 2 t) (ix2 q 0)
      = Ideal.div 1 (max (∑ n, (Cert.RefValue.hit (classes m c) (img t) n q : EReal) * (Cert.RefValue.isFull (boxes m c) (img t) n : EReal)) 1) := by
  rw [invCounts_at]
  simp only [classBlock, valid_eq]
  rfl

/-- What a block of the output holds when the weights, indicators and reciprocals are those of the point's image. -/
theorem block_eq (t : Fin cfg0.N) (w : FVec Ideal S100x4096 .f32) (o : FVec Ideal S599x100 .f32) (i : FVec Ideal S599x1 .f32)
    (s : Fin cfg0.N) (hs : img s = img t)
    (hw : w = boxWeights (iblk m c 1 s) (iblk m c 3 s) (iblk m c 4 s)) (ho : o = oneHot (iblk m c 2 s))
    (hi : i = invCounts (iblk m c 1 s) (iblk m c 2 s)) (q : Fin 599) (j : Fin 128) :
    k0_pay5 w (iblk m c 0 t : FVec Ideal S1x128x4096 .f32) o i (ix3 0 q j)
      = Cert.RefValue.spec (feats m c) (boxes m c) (classes m c) (img t) q (chan t j) := by
  subst hw ho hi
  rw [out_at, invCounts_eq, hs]
  simp only [oneHot_eq, boxWeights_eq, featBlock, hs]
  unfold Cert.RefValue.spec
  refine congrArg₂ (· * ·) (Finset.sum_congr rfl fun n _ => congrArg₂ (· * ·) rfl ?_) rfl
  exact sum_positions fun y z => Cert.RefValue.pixel (boxes m c) (img t) n y z * feats m c (ix4 (img t) (chan t j) y z)

/-- What the first point of an image leaves in its scratch. -/
theorem scratch_eq (t : Fin cfg0.N) (h0 : t.val % 2 = 0) :
    (outsAt0 m c t.val t.isLt).2.1 = boxWeights (iblk m c 1 t) (iblk m c 3 t) (iblk m c 4 t)
      ∧ (outsAt0 m c t.val t.isLt).2.2.1 = oneHot (iblk m c 2 t)
      ∧ (outsAt0 m c t.val t.isLt).2.2.2 = invCounts (iblk m c 1 t) (iblk m c 2 t) := by
  refine ⟨?_, ?_, ?_⟩
  · rw [outsAt0_A m c t h0]
    frame_out
    rfl
  · rw [outsAt0_A m c t h0]
    frame_out
    rfl
  · rw [outsAt0_A m c t h0]
    frame_out
    rfl

/-- What a point leaves in its output block. -/
theorem point (t : Fin cfg0.N) (q : Fin 599) (j : Fin 128) :
    (outsAt0 m c t.val t.isLt).1 (ix3 0 q j) = Cert.RefValue.spec (feats m c) (boxes m c) (classes m c) (img t) q (chan t j) := by
  by_cases h0 : t.val % 2 = 0
  · rw [outsAt0_A m c t h0]
    frame_out
    exact block_eq m c t _ _ _ t rfl rfl rfl rfl q j
  · have hlt : t.val - 1 < cfg0.N := by have := t.isLt; omega
    have hp : ((⟨t.val - 1, hlt⟩ : Fin cfg0.N)).val % 2 = 0 := by
      show (t.val - 1) % 2 = 0
      omega
    obtain ⟨e1, e2, e3⟩ := scratch_eq m c ⟨t.val - 1, hlt⟩ hp
    rw [outsAt0_B m c t h0]
    frame_out
    refine block_eq m c t _ _ _ ⟨t.val - 1, hlt⟩ (Fin.ext ?_) ?_ ?_ ?_ q j
    · show (t.val - 1) / 2 = t.val / 2
      omega
    · exact (read_unread_whole _ (Memref.isWhole_whole _) _).trans e1
    · exact (read_unread_whole _ (Memref.isWhole_whole _) _).trans e2
    · exact (read_unread_whole _ (Memref.isWhole_whole _) _).trans e3

/-- After the run the output array holds the reference's result. -/
theorem final : (dats m 0 c).arrAt 5 (cfgs 0).N = Cert.RefValue.result (feats m c) (boxes m c) (classes m c) := by
  refine (dats m 0 c).arrAt_eq_of_covers 5 _ (by decide +kernel) fun t _ y => ?_
  blk_simp
  rw [after0_5]
  have hy : y = ix3 0 (y 1) (y 2) := (eq_ix3 (n0 := 1) (n1 := 599) (n2 := 128) y).trans
    (congrArg (fun a : Fin 1 => ix3 (n1 := 599) (n2 := 128) a (y 1) (y 2)) (Subsingleton.elim _ _))
  have he : (win0_5.blk t).view.emb y = ix3 (img t) (y 1) (chan t (y 2)) := by
    blk_ext [idx t]
    all_goals rfl
  rw [he]
  exact ((congrArg (outsAt0 m c t.val t.isLt).1 hy).trans (point m c t (y 1) (y 2))).trans (Cert.RefValue.result_at _ _ _ _ _ _).symm

end Cert.KernelIdeal.Array

end
-- ==== Proof.Runs.lean ====
/- The runs of the two programs: the algebraic claim from the equation of the two results. -/
module

public import proofs.«01_k».proof.Defs
public import proofs.«01_k».proof.Proof.RefDefs
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import Idealize.ShloMosaic.Adequacy
public import Idealize.ShloMosaic.Lib.Claim
public import Idealize.ShloMosaic.Lib.Quiescent
public import Idealize.ShloMosaic.Init

@[expose] public section

set_option maxRecDepth 16384

noncomputable section

namespace Cert.Runs

open Idealize.ShloMosaic Idealize.SL.Sem

set_option maxHeartbeats 2000000 in
/-- The reference runs, leaves its arguments unchanged and every semaphore counter at zero. -/
theorem frame_reference : Cert.quiescent_ReferenceIdeal (hReferenceIdeal := Cert.ReferenceIdeal.Gen.facts) := by
  intro m g _
  hlo_run
  · exact fun _ => ⟨trivial, trivial, trivial⟩
  · exact sem_eq_zero_of_no_sems (sig := Cert.ReferenceIdeal.sig) (by decide) _

set_option maxHeartbeats 2000000 in
/-- If the kernel's output array ends as the reference's result, the two programs' results agree. -/
theorem algebraic_of
    (final : ∀ (m : (ℓ : Loc Cert.KernelIdeal.nD Cert.KernelIdeal.τ Cert.KernelIdeal.sig) → Buf (Elt Ideal) ℓ) (c : Dev Cert.KernelIdeal.nD),
      (Cert.KernelIdeal.Gen.dats m 0 c).arrAt 5 Cert.KernelIdeal.cfg0.N
        = Cert.RefValue.result (m (c.tc.loc Cert.KernelIdeal.main_arg0)) (m (c.tc.loc Cert.KernelIdeal.main_arg1)) (m (c.tc.loc Cert.KernelIdeal.main_arg2))) :
    Cert.algebraic_KernelIdeal_ReferenceIdeal
      (hKernelIdeal := Cert.KernelIdeal.Gen.facts) (hReferenceIdeal := Cert.ReferenceIdeal.Gen.facts) := by
  pair_intro
  · run_from Cert.KernelIdeal.Gen.run_main m g
    · exact Cert.KernelIdeal.Gen.V_main_arg0 m c
    · exact Cert.KernelIdeal.Gen.V_main_arg2 m c
  · hlo_run
    refine Eq.trans ?_ (final m c).symm
    have e : Cert.RefValue.result (m (c.tc.loc Cert.KernelIdeal.main_arg0)) (m (c.tc.loc Cert.KernelIdeal.main_arg1))
          (m' (c.tc.loc Cert.ReferenceIdeal.main_arg2))
        = Cert.RefValue.result (m (c.tc.loc Cert.KernelIdeal.main_arg0)) (m (c.tc.loc Cert.KernelIdeal.main_arg1))
          (m (c.tc.loc Cert.KernelIdeal.main_arg2)) :=
      congrArg (Cert.RefValue.result _ _) (hagree c).2.2
    refine Eq.trans ?_ e
    rfl

end Cert.Runs

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.KernelArray
public import proofs.«01_k».proof.Proof.Runs
public import Idealize.ShloMosaic.Adequacy
public import Idealize.ShloMosaic.Lib.Claim
public import Idealize.ShloMosaic.Init

@[expose] public section

noncomputable section

set_option maxRecDepth 16384

namespace Cert.Proof

open Idealize.ShloMosaic Idealize.SL.Sem

/-- The kernel's result array is the reference's, element for element, over the reals with infinities. -/
theorem algebraic : Cert.algebraic_KernelIdeal_ReferenceIdeal
    (hKernelIdeal := Cert.KernelIdeal.Gen.facts) (hReferenceIdeal := Cert.ReferenceIdeal.Gen.facts) :=
  Cert.Runs.algebraic_of fun m c => Cert.KernelIdeal.Array.final m c

/-- The five claims together. -/
theorem claim : Cert.Claim :=
  ⟨Cert.Kernel.Gen.facts, Cert.KernelIdeal.Gen.facts, Cert.ReferenceIdeal.Gen.facts,
    fun m g _ => Cert.Kernel.Gen.frame m g,
    fun m g _ => Cert.KernelIdeal.Gen.frame m g,
    Cert.Runs.frame_reference,
    trivial,
    algebraic⟩

end Cert.Proof

end
